-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 8]⟩ ⟨2, ![1024, 16]⟩ (Layout.meshBlock [2, 2, 2] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![8, 1024, 4096]⟩ ⟨3, ![16, 1024, 4096]⟩ (Layout.meshBlock [2, 2, 2] ![[2], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![8, 4096, 1024]⟩ ⟨3, ![16, 4096, 1024]⟩ (Layout.meshBlock [2, 2, 2] ![[2], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v224)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1024]⟩ ⟨2, ![2048, 1024]⟩ (Layout.meshBlock [2, 2, 2] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v224) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x8 : Shape := ⟨2, ![1024, 8]⟩
abbrev S8x1024x4096 : Shape := ⟨3, ![8, 1024, 4096]⟩
abbrev S8x4096x1024 : Shape := ⟨3, ![8, 4096, 1024]⟩
abbrev S2048x1024 : Shape := ⟨2, ![2048, 1024]⟩
abbrev S2x1024x8 : Shape := ⟨3, ![2, 1024, 8]⟩
abbrev S2048x8 : Shape := ⟨2, ![2048, 8]⟩
abbrev S2x1024x1024 : Shape := ⟨3, ![2, 1024, 1024]⟩
abbrev S_ : Shape := ⟨0, ![]⟩
abbrev S2 : Shape := ⟨1, ![2]⟩
abbrev S1x1024x8 : Shape := ⟨3, ![1, 1024, 8]⟩
abbrev S1 : Shape := ⟨1, ![1]⟩
abbrev S1x1024x1024 : Shape := ⟨3, ![1, 1024, 1024]⟩
abbrev S1024x16 : Shape := ⟨2, ![1024, 16]⟩
abbrev S2048x16 : Shape := ⟨2, ![2048, 16]⟩
abbrev S2048 : Shape := ⟨1, ![2048]⟩
abbrev S2048x1 : Shape := ⟨2, ![2048, 1]⟩
abbrev S2048x2048 : Shape := ⟨2, ![2048, 2048]⟩
abbrev S2048x320 : Shape := ⟨2, ![2048, 320]⟩
abbrev S320x1024 : Shape := ⟨2, ![320, 1024]⟩

abbrev nBuf : Space → Nat
  | .hbm => 5
  | .vmem => 10
  | .smem => 0
  | _ => 0

abbrev bufTy : (tb : Table) → Fin (tcTables nBuf tb) → BufTy
  | .hbm, ⟨0, _⟩ => ⟨S1024x1024, .f32⟩
  | .hbm, ⟨1, _⟩ => ⟨S1024x8, .f32⟩
  | .hbm, ⟨2, _⟩ => ⟨S8x1024x4096, .f32⟩
  | .hbm, ⟨3, _⟩ => ⟨S8x4096x1024, .f32⟩
  | .hbm, ⟨4, _⟩ => ⟨S1024x1024, .f32⟩
  | .local _ .vmem, ⟨0, _⟩ => ⟨S1024x1024, .f32⟩
  | .local _ .vmem, ⟨1, _⟩ => ⟨S1024x8, .f32⟩
  | .local _ .vmem, ⟨2, _⟩ => ⟨S1024x1024, .f32⟩
  | .local _ .vmem, ⟨3, _⟩ => ⟨S2048x1024, .f32⟩
  | .local _ .vmem, ⟨4, _⟩ => ⟨S2x1024x8, .f32⟩
  | .local _ .vmem, ⟨5, _⟩ => ⟨S2048x8, .f32⟩
  | .local _ .vmem, ⟨6, _⟩ => ⟨S2048x8, .f32⟩
  | .local _ .vmem, ⟨7, _⟩ => ⟨S2048x1024, .f32⟩
  | .local _ .vmem, ⟨8, _⟩ => ⟨S2x1024x1024, .f32⟩
  | .local _ .vmem, ⟨9, _⟩ => ⟨S2x1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v17 : BitVec 32 := Scalar.muli v8 c1024_i32
  let c0_i32_13 : BitVec 32 := 0#32
  ![v17.toNat, 0]
def k0_dev2 (d0 : Dev nD) : Nat :=
  let c0_i32_10 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_9 : BitVec 32 := 4#32
  let v18 : BitVec 32 := Scalar.muli v2 c4_i32_9
  let v19 : BitVec 32 := Scalar.addi c0_i32_10 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_11 : BitVec 32 := 2#32
  let v20 : BitVec 32 := Scalar.muli v5 c2_i32_11
  let v21 : BitVec 32 := Scalar.addi v19 v20
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_12 : BitVec 32 := 1#32
  let v22 : BitVec 32 := Scalar.muli v9 c1_i32_12
  let v23 : BitVec 32 := Scalar.addi v21 v22
  v23.toNat
def k0_off2 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_18 : BitVec 32 := 0#32
  let c0_i32_19 : BitVec 32 := 0#32
  ![v8.toNat, 0, 0]
def k0_dev3 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v25 : BitVec 32 := Scalar.muli v2 c4_i32_14
  let v26 : BitVec 32 := Scalar.addi c0_i32_15 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v27 : BitVec 32 := Scalar.muli v5 c2_i32_16
  let v28 : BitVec 32 := Scalar.addi v26 v27
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_17 : BitVec 32 := 1#32
  let v29 : BitVec 32 := Scalar.muli v9 c1_i32_17
  let v30 : BitVec 32 := Scalar.addi v28 v29
  v30.toNat
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_35 : BitVec 32 := 1024#32
  let v47 : BitVec 32 := Scalar.muli v8 c1024_i32_35
  let v48 : Index := Scalar.indexCast v47
  let c0_36 : Index := 0#32
  ![v48.toNat, 0]
def k0_off4 (d0 : Dev nD) : Fin 2 → Nat :=
  let c1_i32_1347 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1303 : BitVec 32 := Scalar.subi c1_i32_1347 v8
  let c1024_i32_1348 : BitVec 32 := 1024#32
  let v1304 : BitVec 32 := Scalar.muli v1303 c1024_i32_1348
  let c0_i32_1353 : BitVec 32 := 0#32
  ![v1304.toNat, 0]
def k0_dev4 (d0 : Dev nD) : Nat :=
  let c0_i32_1350 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1349 : BitVec 32 := 4#32
  let v1305 : BitVec 32 := Scalar.muli v2 c4_i32_1349
  let v1306 : BitVec 32 := Scalar.addi c0_i32_1350 v1305
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1351 : BitVec 32 := 2#32
  let v1307 : BitVec 32 := Scalar.muli v5 c2_i32_1351
  let v1308 : BitVec 32 := Scalar.addi v1306 v1307
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1352 : BitVec 32 := 1#32
  let v1309 : BitVec 32 := Scalar.muli v9 c1_i32_1352
  let v1310 : BitVec 32 := Scalar.addi v1308 v1309
  v1310.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x1024 : Shape := ⟨2, ![2048, 1024]⟩
abbrev S1024x16 : Shape := ⟨2, ![1024, 16]⟩
abbrev S16x1024x4096 : Shape := ⟨3, ![16, 1024, 4096]⟩
abbrev S16x4096x1024 : Shape := ⟨3, ![16, 4096, 1024]⟩
abbrev S2048x16 : Shape := ⟨2, ![2048, 16]⟩
abbrev S_ : Shape := ⟨0, ![]⟩
abbrev S2048 : Shape := ⟨1, ![2048]⟩
abbrev S2048x1 : Shape := ⟨2, ![2048, 1]⟩
abbrev S1x1024x4096 : Shape := ⟨3, ![1, 1024, 4096]⟩
abbrev S1024x4096 : Shape := ⟨2, ![1024, 4096]⟩
abbrev S2048x4096 : Shape := ⟨2, ![2048, 4096]⟩
abbrev S1x4096x1024 : Shape := ⟨3, ![1, 4096, 1024]⟩
abbrev S4096x1024 : Shape := ⟨2, ![4096, 1024]⟩

abbrev nBuf : Space → Nat
  | .hbm => 269
  | .vmem => 0
  | .smem => 0
  | _ => 0

abbrev hbmTy0_0 (i : Nat) : BufTy := match i % 128 with
  | 0 => ⟨S2048x1024, .f32⟩
  | 1 => ⟨S1024x16, .f32⟩
  | 2 => ⟨S16x1024x4096, .f32⟩
  | 3 => ⟨S16x4096x1024, .f32⟩
  | 4 => ⟨S2048x16, .f32⟩
  | 5 => ⟨S_, .f32⟩
  | 6 => ⟨S2048, .f32⟩
  | 7 => ⟨S2048x1, .f32⟩
  | 8 => ⟨S2048x16, .f32⟩
  | 9 => ⟨S2048x16, .i1⟩
  | 10 => ⟨S_, .f32⟩
  | 11 => ⟨S_, .f32⟩
  | 12 => ⟨S2048x16, .f32⟩
  | 13 => ⟨S2048x16, .f32⟩
  | 14 => ⟨S_, .f32⟩
  | 15 => ⟨S2048, .f32⟩
  | 16 => ⟨S2048x1, .f32⟩
  | 17 => ⟨S2048x1, .f32⟩
  | 18 => ⟨S2048x1, .f32⟩
  | 19 => ⟨S_, .f32⟩
  | 20 => ⟨S2048x1, .f32⟩
  | 21 => ⟨S2048x1, .f32⟩
  | 22 => ⟨S_, .f32⟩
  | 23 => ⟨S2048x1, .f32⟩
  | 24 => ⟨S2048x1, .f32⟩
  | 25 => ⟨S_, .f32⟩
  | 26 => ⟨S2048x1, .f32⟩
  | 27 => ⟨S2048x1, .f32⟩
  | 28 => ⟨S2048x1, .f32⟩
  | 29 => ⟨S2048x16, .f32⟩
  | 30 => ⟨S2048x16, .i1⟩
  | 31 => ⟨S_, .f32⟩
  | 32 => ⟨S_, .f32⟩
  | 33 => ⟨S2048x16, .f32⟩
  | 34 => ⟨S2048x16, .f32⟩
  | 35 => ⟨S2048x16, .f32⟩
  | 36 => ⟨S2048x16, .f32⟩
  | 37 => ⟨S2048x16, .i1⟩
  | 38 => ⟨S_, .f32⟩
  | 39 => ⟨S_, .f32⟩
  | 40 => ⟨S2048x16, .f32⟩
  | 41 => ⟨S2048x16, .f32⟩
  | 42 => ⟨S2048x16, .f32⟩
  | 43 => ⟨S2048x16, .f32⟩
  | 44 => ⟨S_, .f32⟩
  | 45 => ⟨S2048x16, .f32⟩
  | 46 => ⟨S2048x16, .i1⟩
  | 47 => ⟨S2048x16, .i32⟩
  | 48 => ⟨S_, .i32⟩
  | 49 => ⟨S_, .i32⟩
  | 50 => ⟨S2048x16, .i32⟩
  | 51 => ⟨S2048x16, .i32⟩
  | 52 => ⟨S_, .i32⟩
  | 53 => ⟨S2048x16, .i32⟩
  | 54 => ⟨S2048x16, .i1⟩
  | 55 => ⟨S_, .f32⟩
  | 56 => ⟨S_, .f32⟩
  | 57 => ⟨S2048x16, .f32⟩
  | 58 => ⟨S2048x16, .f32⟩
  | 59 => ⟨S_, .f32⟩
  | 60 => ⟨S2048x1024, .f32⟩
  | 61 => ⟨S1x1024x4096, .f32⟩
  | 62 => ⟨S1024x4096, .f32⟩
  | 63 => ⟨S2048x4096, .f32⟩
  | 64 => ⟨S_, .f32⟩
  | 65 => ⟨S2048x4096, .f32⟩
  | 66 => ⟨S2048x4096, .f32⟩
  | 67 => ⟨S1x4096x1024, .f32⟩
  | 68 => ⟨S4096x1024, .f32⟩
  | 69 => ⟨S2048x1024, .f32⟩
  | 70 => ⟨S2048x1, .f32⟩
  | 71 => ⟨S2048x1024, .f32⟩
  | 72 => ⟨S2048x1024, .f32⟩
  | 73 => ⟨S2048x1024, .f32⟩
  | 74 => ⟨S1x1024x4096, .f32⟩
  | 75 => ⟨S1024x4096, .f32⟩
  | 76 => ⟨S2048x4096, .f32⟩
  | 77 => ⟨S_, .f32⟩
  | 78 => ⟨S2048x4096, .f32⟩
  | 79 => ⟨S2048x4096, .f32⟩
  | 80 => ⟨S1x4096x1024, .f32⟩
  | 81 => ⟨S4096x1024, .f32⟩
  | 82 => ⟨S2048x1024, .f32⟩
  | 83 => ⟨S2048x1, .f32⟩
  | 84 => ⟨S2048x1024, .f32⟩
  | 85 => ⟨S2048x1024, .f32⟩
  | 86 => ⟨S2048x1024, .f32⟩
  | 87 => ⟨S1x1024x4096, .f32⟩
  | 88 => ⟨S1024x4096, .f32⟩
  | 89 => ⟨S2048x4096, .f32⟩
  | 90 => ⟨S_, .f32⟩
  | 91 => ⟨S2048x4096, .f32⟩
  | 92 => ⟨S2048x4096, .f32⟩
  | 93 => ⟨S1x4096x1024, .f32⟩
  | 94 => ⟨S4096x1024, .f32⟩
  | 95 => ⟨S2048x1024, .f32⟩
  | 96 => ⟨S2048x1, .f32⟩
  | 97 => ⟨S2048x1024, .f32⟩
  | 98 => ⟨S2048x1024, .f32⟩
  | 99 => ⟨S2048x1024, .f32⟩
  | 100 => ⟨S1x1024x4096, .f32⟩
  | 101 => ⟨S1024x4096, .f32⟩
  | 102 => ⟨S2048x4096, .f32⟩
  | 103 => ⟨S_, .f32⟩
  | 104 => ⟨S2048x4096, .f32⟩
  | 105 => ⟨S2048x4096, .f32⟩
  | 106 => ⟨S1x4096x1024, .f32⟩
  | 107 => ⟨S4096x1024, .f32⟩
  | 108 => ⟨S2048x1024, .f32⟩
  | 109 => ⟨S2048x1, .f32⟩
  | 110 => ⟨S2048x1024, .f32⟩
  | 111 => ⟨S2048x1024, .f32⟩
  | 112 => ⟨S2048x1024, .f32⟩
  | 113 => ⟨S1x1024x4096, .f32⟩
  | 114 => ⟨S1024x4096, .f32⟩
  | 115 => ⟨S2048x4096, .f32⟩
  | 116 => ⟨S_, .f32⟩
  | 117 => ⟨S2048x4096, .f32⟩
  | 118 => ⟨S2048x4096, .f32⟩
  | 119 => ⟨S1x4096x1024, .f32⟩
  | 120 => ⟨S4096x1024, .f32⟩
  | 121 => ⟨S2048x1024, .f32⟩
  | 122 => ⟨S2048x1, .f32⟩
  | 123 => ⟨S2048x1024, .f32⟩
  | 124 => ⟨S2048x1024, .f32⟩
  | 125 => ⟨S2048x1024, .f32⟩
  | 126 => ⟨S1x1024x4096, .f32⟩
  | 127 => ⟨S1024x4096, .f32⟩
  | _ => ⟨S2048x1024, .f32⟩

abbrev hbmTy0_1 (i : Nat) : BufTy := match i % 128 with
  | 0 => ⟨S2048x4096, .f32⟩
  | 1 => ⟨S_, .f32⟩
  | 2 => ⟨S2048x4096, .f32⟩
  | 3 => ⟨S2048x4096, .f32⟩
  | 4 => ⟨S1x4096x1024, .f32⟩
  | 5 => ⟨S4096x1024, .f32⟩
  | 6 => ⟨S2048x1024, .f32⟩
  | 7 => ⟨S2048x1, .f32⟩
  | 8 => ⟨S2048x1024, .f32⟩
  | 9 => ⟨S2048x1024, .f32⟩
  | 10 => ⟨S2048x1024, .f32⟩
  | 11 => ⟨S1x1024x4096, .f32⟩
  | 12 => ⟨S1024x4096, .f32⟩
  | 13 => ⟨S2048x4096, .f32⟩
  | 14 => ⟨S_, .f32⟩
  | 15 => ⟨S2048x4096, .f32⟩
  | 16 => ⟨S2048x4096, .f32⟩
  | 17 => ⟨S1x4096x1024, .f32⟩
  | 18 => ⟨S4096x1024, .f32⟩
  | 19 => ⟨S2048x1024, .f32⟩
  | 20 => ⟨S2048x1, .f32⟩
  | 21 => ⟨S2048x1024, .f32⟩
  | 22 => ⟨S2048x1024, .f32⟩
  | 23 => ⟨S2048x1024, .f32⟩
  | 24 => ⟨S1x1024x4096, .f32⟩
  | 25 => ⟨S1024x4096, .f32⟩
  | 26 => ⟨S2048x4096, .f32⟩
  | 27 => ⟨S_, .f32⟩
  | 28 => ⟨S2048x4096, .f32⟩
  | 29 => ⟨S2048x4096, .f32⟩
  | 30 => ⟨S1x4096x1024, .f32⟩
  | 31 => ⟨S4096x1024, .f32⟩
  | 32 => ⟨S2048x1024, .f32⟩
  | 33 => ⟨S2048x1, .f32⟩
  | 34 => ⟨S2048x1024, .f32⟩
  | 35 => ⟨S2048x1024, .f32⟩
  | 36 => ⟨S2048x1024, .f32⟩
  | 37 => ⟨S1x1024x4096, .f32⟩
  | 38 => ⟨S1024x4096, .f32⟩
  | 39 => ⟨S2048x4096, .f32⟩
  | 40 => ⟨S_, .f32⟩
  | 41 => ⟨S2048x4096, .f32⟩
  | 42 => ⟨S2048x4096, .f32⟩
  | 43 => ⟨S1x4096x1024, .f32⟩
  | 44 => ⟨S4096x1024, .f32⟩
  | 45 => ⟨S2048x1024, .f32⟩
  | 46 => ⟨S2048x1, .f32⟩
  | 47 => ⟨S2048x1024, .f32⟩
  | 48 => ⟨S2048x1024, .f32⟩
  | 49 => ⟨S2048x1024, .f32⟩
  | 50 => ⟨S1x1024x4096, .f32⟩
  | 51 => ⟨S1024x4096, .f32⟩
  | 52 => ⟨S2048x4096, .f32⟩
  | 53 => ⟨S_, .f32⟩
  | 54 => ⟨S2048x4096, .f32⟩
  | 55 => ⟨S2048x4096, .f32⟩
  | 56 => ⟨S1x4096x1024, .f32⟩
  | 57 => ⟨S4096x1024, .f32⟩
  | 58 => ⟨S2048x1024, .f32⟩
  | 59 => ⟨S2048x1, .f32⟩
  | 60 => ⟨S2048x1024, .f32⟩
  | 61 => ⟨S2048x1024, .f32⟩
  | 62 => ⟨S2048x1024, .f32⟩
  | 63 => ⟨S1x1024x4096, .f32⟩
  | 64 => ⟨S1024x4096, .f32⟩
  | 65 => ⟨S2048x4096, .f32⟩
  | 66 => ⟨S_, .f32⟩
  | 67 => ⟨S2048x4096, .f32⟩
  | 68 => ⟨S2048x4096, .f32⟩
  | 69 => ⟨S1x4096x1024, .f32⟩
  | 70 => ⟨S4096x1024, .f32⟩
  | 71 => ⟨S2048x1024, .f32⟩
  | 72 => ⟨S2048x1, .f32⟩
  | 73 => ⟨S2048x1024, .f32⟩
  | 74 => ⟨S2048x1024, .f32⟩
  | 75 => ⟨S2048x1024, .f32⟩
  | 76 => ⟨S1x1024x4096, .f32⟩
  | 77 => ⟨S1024x4096, .f32⟩
  | 78 => ⟨S2048x4096, .f32⟩
  | 79 => ⟨S_, .f32⟩
  | 80 => ⟨S2048x4096, .f32⟩
  | 81 => ⟨S2048x4096, .f32⟩
  | 82 => ⟨S1x4096x1024, .f32⟩
  | 83 => ⟨S4096x1024, .f32⟩
  | 84 => ⟨S2048x1024, .f32⟩
  | 85 => ⟨S2048x1, .f32⟩
  | 86 => ⟨S2048x1024, .f32⟩
  | 87 => ⟨S2048x1024, .f32⟩
  | 88 => ⟨S2048x1024, .f32⟩
  | 89 => ⟨S1x1024x4096, .f32⟩
  | 90 => ⟨S1024x4096, .f32⟩
  | 91 => ⟨S2048x4096, .f32⟩
  | 92 => ⟨S_, .f32⟩
  | 93 => ⟨S2048x4096, .f32⟩
  | 94 => ⟨S2048x4096, .f32⟩
  | 95 => ⟨S1x4096x1024, .f32⟩
  | 96 => ⟨S4096x1024, .f32⟩
  | 97 => ⟨S2048x1024, .f32⟩
  | 98 => ⟨S2048x1, .f32⟩
  | 99 => ⟨S2048x1024, .f32⟩
  | 100 => ⟨S2048x1024, .f32⟩
  | 101 => ⟨S2048x1024, .f32⟩
  | 102 => ⟨S1x1024x4096, .f32⟩
  | 103 => ⟨S1024x4096, .f32⟩
  | 104 => ⟨S2048x4096, .f32⟩
  | 105 => ⟨S_, .f32⟩
  | 106 => ⟨S2048x4096, .f32⟩
  | 107 => ⟨S2048x4096, .f32⟩
  | 108 => ⟨S1x4096x1024, .f32⟩
  | 109 => ⟨S4096x1024, .f32⟩
  | 110 => ⟨S2048x1024, .f32⟩
  | 111 => ⟨S2048x1, .f32⟩
  | 112 => ⟨S2048x1024, .f32⟩
  | 113 => ⟨S2048x1024, .f32⟩
  | 114 => ⟨S2048x1024, .f32⟩
  | 115 => ⟨S1x1024x4096, .f32⟩
  | 116 => ⟨S1024x4096, .f32⟩
  | 117 => ⟨S2048x4096, .f32⟩
  | 118 => ⟨S_, .f32⟩
  | 119 => ⟨S2048x4096, .f32⟩
  | 120 => ⟨S2048x4096, .f32⟩
  | 121 => ⟨S1x4096x1024, .f32⟩
  | 122 => ⟨S4096x1024, .f32⟩
  | 123 => ⟨S2048x1024, .f32⟩
  | 124 => ⟨S2048x1, .f32⟩
  | 125 => ⟨S2048x1024, .f32⟩
  | 126 => ⟨S2048x1024, .f32⟩
  | 127 => ⟨S2048x1024, .f32⟩
  | _ => ⟨S2048x1024, .f32⟩

abbrev hbmTy0_2 (i : Nat) : BufTy := match i % 128 with
  | 0 => ⟨S1x1024x4096, .f32⟩
  | 1 => ⟨S1024x4096, .f32⟩
  | 2 => ⟨S2048x4096, .f32⟩
  | 3 => ⟨S_, .f32⟩
  | 4 => ⟨S2048x4096, .f32⟩
  | 5 => ⟨S2048x4096, .f32⟩
  | 6 => ⟨S1x4096x1024, .f32⟩
  | 7 => ⟨S4096x1024, .f32⟩
  | 8 => ⟨S2048x1024, .f32⟩
  | 9 => ⟨S2048x1, .f32⟩
  | 10 => ⟨S2048x1024, .f32⟩
  | 11 => ⟨S2048x1024, .f32⟩
  | 12 => ⟨S2048x1024, .f32⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call3_call0_c : Ref sig .tc := ⟨.hbm, 48, rfl⟩
abbrev main_call3_call0_v0 : Ref sig .tc := ⟨.hbm, 49, rfl⟩
abbrev main_v27 : Ref sig .tc := ⟨.hbm, 50, rfl⟩
abbrev main_v28 : Ref sig .tc := ⟨.hbm, 51, rfl⟩
abbrev main_c : Ref sig .tc := ⟨.hbm, 52, rfl⟩
abbrev main_v29 : Ref sig .tc := ⟨.hbm, 53, rfl⟩
abbrev main_v30 : Ref sig .tc := ⟨.hbm, 54, rfl⟩
abbrev main_cst_8 : Ref sig .tc := ⟨.hbm, 55, rfl⟩
abbrev main_call4_v0 : Ref sig .tc := ⟨.hbm, 56, rfl⟩
abbrev main_call4_v1 : Ref sig .tc := ⟨.hbm, 57, rfl⟩
abbrev main_v31 : Ref sig .tc := ⟨.hbm, 58, rfl⟩
abbrev main_cst_9 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_10 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_11 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_12 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_13 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_14 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_15 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_16 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_cst_17 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_18 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_cst_19 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_cst_20 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_cst_21 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_cst_22 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_cst_23 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_cst_24 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_cst_25 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩

abbrev nD : Nat := 1
abbrev τ : Topo := Topo.v7x

variable {F : FTy → Type} [FloatOps F]
-- ==== Proof.Flat.lean ====
module

public import proofs.«01_k».proof.Proof.Gen.KernelIdeal.Frame
public import proofs.«01_k».proof.Proof.Gen.KernelIdeal.Skeleton

@[expose] public section

set_option maxRecDepth 65536

noncomputable section

namespace Cert.KernelIdeal.Moe

open Idealize.ShloMosaic Idealize.ShloMosaic.TcCoe
open Idealize.SL Idealize.SL.Sem
open Cert.KernelIdeal Cert.KernelIdeal.Gen

variable {F : FTy → Type} [FloatOps F]

/-- A program of one core of the kernel. -/
abbrev KProg (F : FTy → Type) [FloatOps F] (α : Type) := Prog (TpuEff nD τ sig (Elt F) Λ₀ .tc) α

/-! ## The buffers -/

/-- The staged block of the tokens. -/
abbrev xM : Memref sig .tc .vmem S1024x1024 .f32 := Memref.whole cc0_stg0_0
/-- The staged block of the router. -/
abbrev rM : Memref sig .tc .vmem S1024x8 .f32 := Memref.whole cc0_stg1_0
/-- The staged block of the result. -/
abbrev outM : Memref sig .tc .vmem S1024x1024 .f32 := Memref.whole cc0_stg2_0
/-- The first weights, in HBM. -/
abbrev W1M : Memref sig .tc .hbm S8x1024x4096 .f32 := Memref.whole main_arg2
/-- The second weights, in HBM. -/
abbrev W2M : Memref sig .tc .hbm S8x4096x1024 .f32 := Memref.whole main_arg3
/-- All tokens. -/
abbrev xfM : Memref sig .tc .vmem S2048x1024 .f32 := Memref.whole cc0_scratch0
/-- Both halves of the router. -/
abbrev rhM : Memref sig .tc .vmem S2x1024x8 .f32 := Memref.whole cc0_scratch1
/-- The weights of the device's experts. -/
abbrev wlM : Memref sig .tc .vmem S2048x8 .f32 := Memref.whole cc0_scratch2
/-- The ranks of the tokens at the device's experts. -/
abbrev rkM : Memref sig .tc .vmem S2048x8 .f32 := Memref.whole cc0_scratch3
/-- The accumulated contributions. -/
abbrev accM : Memref sig .tc .vmem S2048x1024 .f32 := Memref.whole cc0_scratch4
/-- The two slots of the first weights. -/
abbrev c1M : Memref sig .tc .vmem S2x1024x1024 .f32 := Memref.whole cc0_scratch5
/-- The two slots of the second weights. -/
abbrev c2M : Memref sig .tc .vmem S2x1024x1024 .f32 := Memref.whole cc0_scratch6

/-! ## Chunks and slots -/

theorem inb_slot (b : Fin 2) : ∀ a, (![b.val, 0, 0] : Fin 3 → ℕ) a + S1x1024x1024.size a ≤ S2x1024x1024.size a := by
  revert b; decide
theorem inb_w1 (e : Fin 8) (f : Fin 4) : ∀ a, (![e.val, 0, 1024 * f.val] : Fin 3 → ℕ) a + S1x1024x1024.size a ≤ S8x1024x4096.size a := by
  revert e f; decide
theorem inb_w2 (e : Fin 8) (f : Fin 4) : ∀ a, (![e.val, 1024 * f.val, 0] : Fin 3 → ℕ) a + S1x1024x1024.size a ≤ S8x4096x1024.size a := by
  revert e f; decide
theorem inb_sem (b : Fin 2) : ∀ a, (![b.val] : Fin 1 → ℕ) a + S1.size a ≤ S2.size a := by
  revert b; decide
theorem inb_col (e : Fin 8) : ∀ a, (![0, e.val] : Fin 2 → ℕ) a + S2048x1.size a ≤ S2048x8.size a := by
  revert e; decide

/-- Chunk `f` of expert `e`'s first weights. -/
abbrev w1Chunk (e : Fin 8) (f : Fin 4) : Memref sig .tc .hbm S1024x1024 .f32 :=
  (W1M.slice (Rect.unit (s := S8x1024x4096) ![e.val, 0, 1024 * f.val] S1x1024x1024.size (inb_w1 e f)) (fun _ => rfl)).squeeze S1024x1024 squeezes_S1x1024x1024_S1024x1024
/-- Chunk `f` of expert `e`'s second weights. -/
abbrev w2Chunk (e : Fin 8) (f : Fin 4) : Memref sig .tc .hbm S1024x1024 .f32 :=
  (W2M.slice (Rect.unit (s := S8x4096x1024) ![e.val, 1024 * f.val, 0] S1x1024x1024.size (inb_w2 e f)) (fun _ => rfl)).squeeze S1024x1024 squeezes_S1x1024x1024_S1024x1024
/-- Slot `b` of the first weights. -/
abbrev c1Slot (b : Fin 2) : Memref sig .tc .vmem S1024x1024 .f32 :=
  (c1M.slice (Rect.unit (s := S2x1024x1024) ![b.val, 0, 0] S1x1024x1024.size (inb_slot b)) (fun _ => rfl)).squeeze S1024x1024 squeezes_S1x1024x1024_S1024x1024
/-- Slot `b` of the second weights. -/
abbrev c2Slot (b : Fin 2) : Memref sig .tc .vmem S1024x1024 .f32 :=
  (c2M.slice (Rect.unit (s := S2x1024x1024) ![b.val, 0, 0] S1x1024x1024.size (inb_slot b)) (fun _ => rfl)).squeeze S1024x1024 squeezes_S1x1024x1024_S1024x1024
/-- The semaphore of slot `b` of the first weights. -/
abbrev s1 (b : Fin 2) : DmaSems sig S_ := (cc0_scratch13.slice (Rect.unit (s := S2) ![b.val] S1.size (inb_sem b))).squeeze S_ squeezes_S1_S_
/-- The semaphore of slot `b` of the second weights. -/
abbrev s2 (b : Fin 2) : DmaSems sig S_ := (cc0_scratch14.slice (Rect.unit (s := S2) ![b.val] S1.size (inb_sem b))).squeeze S_ squeezes_S1_S_

/-- Start the transfers of chunk `f` of expert `e` into slot `b`. -/
def startPair (e : Fin 8) (f : Fin 4) (b : Fin 2) : KProg F PUnit := do
  Prog.lift (.enqueueDma (w1Chunk e f) (.here (c1Slot b)) (.dma (s1 b).sem) ((View.wordExact_bits rfl).reshape _ _) ((View.wordExact_bits rfl).reshape _ _) ⟨Or.inl rfl, trivial⟩)
  Prog.lift (.enqueueDma (w2Chunk e f) (.here (c2Slot b)) (.dma (s2 b).sem) ((View.wordExact_bits rfl).reshape _ _) ((View.wordExact_bits rfl).reshape _ _) ⟨Or.inl rfl, trivial⟩)

/-- Wait for chunk `f` of expert `e` in slot `b` and read it. -/
def takePair (e : Fin 8) (f : Fin 4) (b : Fin 2) : KProg F (Vec F S1x1024x1024 .f32 × Vec F S1x1024x1024 .f32) := do
  Prog.lift (.waitDma2 (s1 b).sem (w1Chunk e f) (c1Slot b) ((View.wordExact_bits rfl).reshape _ _) ((View.wordExact_bits rfl).reshape _ _))
  Prog.lift (.waitDma2 (s2 b).sem (w2Chunk e f) (c2Slot b) ((View.wordExact_bits rfl).reshape _ _) ((View.wordExact_bits rfl).reshape _ _))
  let w1 : Vec F S1x1024x1024 .f32 ← Prog.lift (.load c1M (Rect.unit (s := S2x1024x1024) ![b.val, 0, 0] S1x1024x1024.size (inb_slot b)).toLoadRect (View.loadsAt_vmem h_S1x1024x1024))
  let w2 : Vec F S1x1024x1024 .f32 ← Prog.lift (.load c2M (Rect.unit (s := S2x1024x1024) ![b.val, 0, 0] S1x1024x1024.size (inb_slot b)).toLoadRect (View.loadsAt_vmem h_S1x1024x1024))
  pure (w1, w2)

/-- Read column `e` of the ranks. -/
def loadRank (e : Fin 8) : KProg F (Vec F S2048x1 .f32) :=
  Prog.lift (.load rkM (Rect.unit (s := S2048x8) ![0, e.val] S2048x1.size (inb_col e)).toLoadRect (View.loadsAt_vmem h_S2048x1))
/-- Read column `e` of the weights. -/
def loadWeight (e : Fin 8) : KProg F (Vec F S2048x1 .f32) :=
  Prog.lift (.load wlM (Rect.unit (s := S2048x8) ![0, e.val] S2048x1.size (inb_col e)).toLoadRect (View.loadsAt_vmem h_S2048x1))
/-- Read all tokens. -/
def loadAll : KProg F (Vec F S2048x1024 .f32) :=
  Prog.lift (.load xfM (Rect.unit (s := S2048x1024) ![0, 0] S2048x1024.size inb_S2048x1024_S2048x1024_0_0).toLoadRect (View.loadsAt_vmem h_S2048x1024))
/-- Read the accumulated contributions. -/
def loadAcc : KProg F (Vec F S2048x1024 .f32) :=
  Prog.lift (.load accM (Rect.unit (s := S2048x1024) ![0, 0] S2048x1024.size inb_S2048x1024_S2048x1024_0_0).toLoadRect (View.loadsAt_vmem h_S2048x1024))
/-- Write the accumulated contributions. -/
def storeAcc (v : FVec F S2048x1024 .f32) : KProg F PUnit :=
  Prog.lift (.store accM (Rect.unit (s := S2048x1024) ![0, 0] S2048x1024.size inb_S2048x1024_S2048x1024_0_0) v Finset.univ (View.stores_vmem_bits_univ h_S2048x1024 rfl) (.inl rfl))

/-- The four chunks of expert `e`: each started one ahead; `next` starts the chunk after the last. -/
def fourChunks (e : Fin 8) (next : KProg F PUnit) (k : (Fin 4 → Vec F S1x1024x1024 .f32 × Vec F S1x1024x1024 .f32) → KProg F PUnit) : KProg F PUnit := do
  startPair e 1 1
  let p0 ← takePair e 0 0
  startPair e 2 0
  let p1 ← takePair e 1 1
  startPair e 3 1
  let p2 ← takePair e 2 0
  next
  let p3 ← takePair e 3 1
  k ![p0, p1, p2, p3]

/-- The first three chunks of an expert's layer on the gathered tokens `xg`. -/
def chunks3 (xg : FVec F S320x1024 .f32) (p : Fin 4 → Vec F S1x1024x1024 .f32 × Vec F S1x1024x1024 .f32) : FVec F S320x1024 .f32 :=
  k0_pay17 xg (k0_pay17 xg (k0_pay16 xg (p 0).1 (p 0).2) (p 1).1 (p 1).2) (p 2).1 (p 2).2

/-- What expert `0` leaves in the accumulator. -/
def first (rk : Vec F S2048x1 .f32) (xf : Vec F S2048x1024 .f32) (p : Fin 4 → Vec F S1x1024x1024 .f32 × Vec F S1x1024x1024 .f32)
    (wc : Vec F S2048x1 .f32) : FVec F S2048x1024 .f32 :=
  k0_pay20 (k0_pay14 k0_pay13 rk) (chunks3 (k0_pay15 k0_pay13 rk xf) p) (k0_pay19 (k0_pay15 k0_pay13 rk xf) (p 3).1) (p 3).2 wc

/-- What a later expert leaves in the accumulator, which held `a`. -/
def later (rk : Vec F S2048x1 .f32) (xf : Vec F S2048x1024 .f32) (p : Fin 4 → Vec F S1x1024x1024 .f32 × Vec F S1x1024x1024 .f32)
    (wc : Vec F S2048x1 .f32) (a : Vec F S2048x1024 .f32) : FVec F S2048x1024 .f32 :=
  k0_pay28 (k0_pay14 k0_pay13 rk) (k0_pay15 k0_pay13 rk xf) (chunks3 (k0_pay15 k0_pay13 rk xf) p) (p 3).1 (p 3).2 wc a

/-- Expert `0`. -/
def expert0 (next : KProg F PUnit) : KProg F PUnit := do
  let rk ← loadRank 0
  let xf ← loadAll
  fourChunks 0 next fun p => do
    let wc ← loadWeight 0
    let _ ← loadAcc
    storeAcc (first rk xf p wc)

/-- Expert `e`, after the first. -/
def expert (e : Fin 8) (next : KProg F PUnit) : KProg F PUnit := do
  let rk ← loadRank e
  let xf ← loadAll
  fourChunks e next fun p => do
    let wc ← loadWeight e
    let a ← loadAcc
    let _ ← loadAcc
    storeAcc (later rk xf p wc a)

/-- The weights and ranks stored, before the first expert. -/
def storeRouting (v8 : BitVec 32) (v84 : FVec F S2048x1 .f32) (v86 : IVec S2048x16 1) (v88 : FVec F S2048x16 .f32) (v89 : FVec F S2048 .f32) : KProg F PUnit := do
  let _v110 : Vec F S2048x8 .f32 ← Prog.lift (.load wlM (Rect.unit (s := S2048x8) ![0, 0] S2048x8.size inb_S2048x8_S2048x8_0_0).toLoadRect (View.loadsAt_vmem h_S2048x8))
  Prog.lift (.store wlM (Rect.unit (s := S2048x8) ![0, 0] S2048x8.size inb_S2048x8_S2048x8_0_0) (k0_pay11 v8 v84 v86 v88 v89) Finset.univ (View.stores_vmem_bits_univ h_S2048x8 rfl) (.inl rfl))
  let _v128 : Vec F S2048x8 .f32 ← Prog.lift (.load rkM (Rect.unit (s := S2048x8) ![0, 0] S2048x8.size inb_S2048x8_S2048x8_0_0).toLoadRect (View.loadsAt_vmem h_S2048x8))
  Prog.lift (.store rkM (Rect.unit (s := S2048x8) ![0, 0] S2048x8.size inb_S2048x8_S2048x8_0_0) (k0_pay12 v8 v84 v86 v88 v89) Finset.univ (View.stores_vmem_bits_univ h_S2048x8 rfl) (.inl rfl))

/-- All eight experts. -/
def experts : KProg F PUnit := do
  expert0 (startPair 1 0 0)
  expert 1 (startPair 2 0 0)
  expert 2 (startPair 3 0 0)
  expert 3 (startPair 4 0 0)
  expert 4 (startPair 5 0 0)
  expert 5 (startPair 6 0 0)
  expert 6 (startPair 7 0 0)
  expert 7 (pure ⟨⟩)

/-- The last exchange. -/
def exchange (d0 : Dev nD) : KProg F PUnit := do
  let v1311 : Memref sig .tc .vmem S1024x1024 .f32 := accM.slice (Rect.unit (s := S2048x1024) (k0_off4 d0) S1024x1024.size (k0_off4_inb d0)) (fun _ => rfl)
  Prog.lift (.enqueueDma v1311 (.remote (Dev.tc (⟨k0_dev4 d0, k0_dev4_lt d0⟩ : Dev nD)) outM (.dma cc0_scratch11.sem)) (.dma cc0_scratch12.sem) (View.wordExact_bits rfl) (Memref.isWhole_whole _).wordExact ⟨⟨rfl, Or.inl rfl⟩, trivial⟩)
  Prog.lift (.waitDma2 cc0_scratch11.sem outM v1311 (Memref.isWhole_whole _).wordExact (View.wordExact_bits rfl))
  Prog.lift (.waitDma2 cc0_scratch12.sem v1311 outM (View.wordExact_bits rfl) (Memref.isWhole_whole _).wordExact)
  let v1320 : Vec F S1024x1024 .f32 ← Prog.lift (.load outM (Rect.unit (s := S1024x1024) ![0, 0] S1024x1024.size inb_S1024x1024_S1024x1024_0_0).toLoadRect (View.loadsAt_vmem h_S1024x1024))
  let v1324 : Vec F S1024x1024 .f32 ← Prog.lift (.load accM (Rect.unit (s := S2048x1024) (k0_off3 d0) S1024x1024.size (k0_off3_inb d0)).toLoadRect (View.loadsAt_vmem h_S1024x1024))
  let _v1326 : Vec F S1024x1024 .f32 ← Prog.lift (.load outM (Rect.unit (s := S1024x1024) ![0, 0] S1024x1024.size inb_S1024x1024_S1024x1024_0_0).toLoadRect (View.loadsAt_vmem h_S1024x1024))
  Prog.lift (.store outM (Rect.unit (s := S1024x1024) ![0, 0] S1024x1024.size inb_S1024x1024_S1024x1024_0_0) (k0_pay1 v1320 v1324) Finset.univ (View.stores_vmem_bits_univ h_S1024x1024 rfl) (.inl rfl))

/-- The two routing exchanges: the barrier, both transfers and the device's own halves. -/
def gather1 (d0 : Dev nD) : KProg F PUnit := do
  semSignalWord (⟨k0_dev1 d0, k0_dev1_lt d0⟩ : Dev nD) (SemArray.scalar (sig.barrier 0 rfl) : Sems sig S_).sem 1#32
  semWaitWord (SemArray.scalar (sig.barrier 0 rfl) : Sems sig S_).sem 1#32
  let v24 : Memref sig .tc .vmem S1024x1024 .f32 := xfM.slice (Rect.unit (s := S2048x1024) (k0_off1 d0) S1024x1024.size (k0_off1_inb d0)) (fun _ => rfl)
  Prog.lift (.enqueueDma xM (.remote (Dev.tc (⟨k0_dev2 d0, k0_dev2_lt d0⟩ : Dev nD)) v24 (.dma cc0_scratch7.sem)) (.dma cc0_scratch8.sem) (Memref.isWhole_whole _).wordExact (View.wordExact_bits rfl) ⟨⟨rfl, Or.inl rfl⟩, trivial⟩)
  let v32 : Memref sig .tc .vmem S1024x8 .f32 := (rhM.slice (Rect.unit (s := S2x1024x8) (k0_off2 d0) S1x1024x8.size (k0_off2_inb d0)) (fun _ => rfl)).squeeze S1024x8 squeezes_S1x1024x8_S1024x8
  Prog.lift (.enqueueDma rM (.remote (Dev.tc (⟨k0_dev3 d0, k0_dev3_lt d0⟩ : Dev nD)) v32 (.dma cc0_scratch9.sem)) (.dma cc0_scratch10.sem) (Memref.isWhole_whole _).wordExact ((View.wordExact_bits rfl).reshape _ _) ⟨⟨rfl, Or.inl rfl⟩, trivial⟩)

/-- The device's position on the last mesh axis, as the kernel computes it. -/
def myZ (d0 : Dev nD) : BitVec 32 := Scalar.remsi (Scalar.divsi (Dev.word d0) 1#32) 2#32

/-- On the lower place the device's own router block is stored as the first half. -/
def ownHalf0 (v8 : BitVec 32) : KProg F PUnit :=
  if Scalar.cmpi .ne (Scalar.extui (Scalar.cmpi .eq v8 0#32) : BitVec 32) 0#32 = 1#1 then do
    let v1327 : Vec F S1024x8 .f32 ← Prog.lift (.load rM (Rect.unit (s := S1024x8) ![0, 0] S1024x8.size inb_S1024x8_S1024x8_0_0).toLoadRect (View.loadsAt_vmem h_S1024x8))
    let _v1329 : Vec F S1x1024x8 .f32 ← Prog.lift (.load rhM (Rect.unit (s := S2x1024x8) ![0, 0, 0] S1x1024x8.size inb_S2x1024x8_S1x1024x8_0_0_0).toLoadRect (View.loadsAt_vmem h_S1x1024x8))
    Prog.lift (.store rhM (Rect.unit (s := S2x1024x8) ![0, 0, 0] S1x1024x8.size inb_S2x1024x8_S1x1024x8_0_0_0) (k0_pay3 v1327) Finset.univ (View.stores_vmem_bits_univ h_S1x1024x8 rfl) (.inl rfl))
  else pure ⟨⟩

/-- On the upper place the device's own router block is stored as the second half. -/
def ownHalf1 (v8 : BitVec 32) : KProg F PUnit :=
  if Scalar.cmpi .ne (Scalar.extui (Scalar.cmpi .eq v8 1#32) : BitVec 32) 0#32 = 1#1 then do
    let v1327 : Vec F S1024x8 .f32 ← Prog.lift (.load rM (Rect.unit (s := S1024x8) ![0, 0] S1024x8.size inb_S1024x8_S1024x8_0_0).toLoadRect (View.loadsAt_vmem h_S1024x8))
    let _v1329 : Vec F S1x1024x8 .f32 ← Prog.lift (.load rhM (Rect.unit (s := S2x1024x8) ![1, 0, 0] S1x1024x8.size inb_S2x1024x8_S1x1024x8_1_0_0).toLoadRect (View.loadsAt_vmem h_S1x1024x8))
    Prog.lift (.store rhM (Rect.unit (s := S2x1024x8) ![1, 0, 0] S1x1024x8.size inb_S2x1024x8_S1x1024x8_1_0_0) (k0_pay4 v1327) Finset.univ (View.stores_vmem_bits_univ h_S1x1024x8 rfl) (.inl rfl))
  else pure ⟨⟩

/-- The device's own halves, stored while the transfers are in flight. -/
def gather2 (d0 : Dev nD) : KProg F PUnit := do
  let v45 : Vec F S1024x1024 .f32 ← Prog.lift (.load xM (Rect.unit (s := S1024x1024) ![0, 0] S1024x1024.size inb_S1024x1024_S1024x1024_0_0).toLoadRect (View.loadsAt_vmem h_S1024x1024))
  let _v49 : Vec F S1024x1024 .f32 ← Prog.lift (.load xfM (Rect.unit (s := S2048x1024) (k0_off3 d0) S1024x1024.size (k0_off3_inb d0)).toLoadRect (View.loadsAt_vmem h_S1024x1024))
  Prog.lift (.store xfM (Rect.unit (s := S2048x1024) (k0_off3 d0) S1024x1024.size (k0_off3_inb d0)) (k0_pay2 v45) Finset.univ (View.stores_vmem_bits_univ h_S1024x1024 rfl) (.inl rfl))
  ownHalf0 (myZ d0)
  ownHalf1 (myZ d0)

/-- The four waits of the routing exchange and what is read after them. -/
def gather3 (d0 : Dev nD) (k : Vec F S1x1024x8 .f32 → Vec F S1x1024x8 .f32 → Vec F S2048x1024 .f32 → KProg F PUnit) : KProg F PUnit := do
  let v59 : Memref sig .tc .vmem S1024x8 .f32 := (rhM.slice (Rect.unit (s := S2x1024x8) (k0_off2 d0) S1x1024x8.size (k0_off2_inb d0)) (fun _ => rfl)).squeeze S1024x8 squeezes_S1x1024x8_S1024x8
  Prog.lift (.waitDma2 cc0_scratch9.sem v59 rM ((View.wordExact_bits rfl).reshape _ _) (Memref.isWhole_whole _).wordExact)
  Prog.lift (.waitDma2 cc0_scratch10.sem rM v59 (Memref.isWhole_whole _).wordExact ((View.wordExact_bits rfl).reshape _ _))
  let v68 : Memref sig .tc .vmem S1024x1024 .f32 := xfM.slice (Rect.unit (s := S2048x1024) (k0_off1 d0) S1024x1024.size (k0_off1_inb d0)) (fun _ => rfl)
  Prog.lift (.waitDma2 cc0_scratch7.sem v68 xM (View.wordExact_bits rfl) (Memref.isWhole_whole _).wordExact)
  Prog.lift (.waitDma2 cc0_scratch8.sem xM v68 (Memref.isWhole_whole _).wordExact (View.wordExact_bits rfl))
  let v76 : Vec F S1x1024x8 .f32 ← Prog.lift (.load rhM (Rect.unit (s := S2x1024x8) ![0, 0, 0] S1x1024x8.size inb_S2x1024x8_S1x1024x8_0_0_0).toLoadRect (View.loadsAt_vmem h_S1x1024x8))
  let v78 : Vec F S1x1024x8 .f32 ← Prog.lift (.load rhM (Rect.unit (s := S2x1024x8) ![1, 0, 0] S1x1024x8.size inb_S2x1024x8_S1x1024x8_1_0_0).toLoadRect (View.loadsAt_vmem h_S1x1024x8))
  let v81 ← loadAll
  k v76 v78 v81

/-- The whole body on one device, its experts and chunks as one pattern repeated. -/
def flat : KProg F PUnit := do
  let d0 : Dev nD ← Prog.lift .deviceId
  gather1 d0
  startPair 0 0 0
  gather2 d0
  gather3 d0 fun v76 v78 v81 => do
    storeRouting (myZ d0) (k0_pay6 v76 v78 v81) (k0_pay7 v76 v78 v81) (k0_pay8 v76 v78 v81) (k0_pay9 v76 v78 v81)
    experts
    exchange d0

/-- Two programs issuing the same operation agree where their continuations do. -/
theorem op_congr {α : Type} {ι : Type} {E : Type → Type} (e : E ι) {k k' : ι → Prog E α} (h : ∀ x, k x = k' x) : Prog.op e k = Prog.op e k' :=
  congrArg _ (funext h)

/-- A branch whose two arms end in one continuation is its short branch followed by the continuation. -/
theorem branch_bind {β γ : Type} {E : Type → Type} {c : Prop} [Decidable c] {q : Prog E PUnit} {a : c → Prog E β} {b : ¬ c → Prog E β}
    {j : Prog E β} {g : β → Prog E γ} {p' : Prog E PUnit} {r : PUnit → Prog E γ}
    (hp : p' = if c then q else Prog.ret ⟨⟩) (hb : ∀ h, b h = j) (ha : ∀ h, a h = q.bind fun _ => j) (hr : j.bind g = r ⟨⟩) :
    (dite c a b).bind g = p'.bind r := by
  subst hp
  by_cases h : c
  · rw [dif_pos h, if_pos h, ha h]
    show (q >>= fun _ => j) >>= g = q >>= r
    rw [bind_assoc]
    exact congrArg (q >>= ·) (funext fun _ => hr)
  · rw [dif_neg h, if_neg h, hb h]
    exact hr

/-- Sequencing is associative. -/
theorem bind_bind {α β γ : Type} {E : Type → Type} (p : Prog E α) (f : α → Prog E β) (g : β → Prog E γ) :
    (p.bind f).bind g = p.bind fun x => (f x).bind g := bind_assoc p f g

set_option maxHeartbeats 4000000 in
/-- The printed body is the repeated pattern. -/
theorem body_flat : cc0_body (F := F) xM (Memref.isWhole_whole _) rM (Memref.isWhole_whole _) W1M (Memref.isWhole_whole _) W2M (Memref.isWhole_whole _)
    outM (Memref.isWhole_whole _) xfM (Memref.isWhole_whole _) rhM (Memref.isWhole_whole _) wlM (Memref.isWhole_whole _) rkM (Memref.isWhole_whole _)
    accM (Memref.isWhole_whole _) c1M (Memref.isWhole_whole _) c2M (Memref.isWhole_whole _)
    cc0_scratch7 cc0_scratch8 cc0_scratch9 cc0_scratch10 cc0_scratch11 cc0_scratch12 cc0_scratch13 cc0_scratch14 = flat := by
  refine op_congr _ fun d0 => ?_
  iterate 9 refine op_congr _ fun _ => ?_
  refine Eq.trans (bind_bind _ _ _) ?_
  refine Eq.trans ?_ (bind_bind (ownHalf0 (F := F) (myZ d0)) _ _).symm
  refine branch_bind (c := Scalar.cmpi .ne (Scalar.extui (Scalar.cmpi .eq (myZ d0) 0#32) : BitVec 32) 0#32 = 1#1)
    (p' := ownHalf0 (F := F) (myZ d0)) rfl (fun _ => rfl) ?_ ?_
  · exact fun _ => rfl
  refine branch_bind (c := Scalar.cmpi .ne (Scalar.extui (Scalar.cmpi .eq (myZ d0) 1#32) : BitVec 32) 0#32 = 1#1)
    (p' := ownHalf1 (F := F) (myZ d0)) rfl (fun _ => rfl) ?_ ?_
  · exact fun _ => rfl
  repeat refine op_congr _ fun _ => ?_
  rfl

end Cert.KernelIdeal.Moe

end

end
-- ==== Proof.Values.lean ====
module

public import proofs.«01_k».proof.Proof.Flat
public import Idealize.ShloMosaic.Lib.ValueIdxCore
public import Idealize.ShloMosaic.Lib.ValueLayout
public import Idealize.ShloMosaic.Lib.Pipeline.Value

@[expose] public section

noncomputable section

namespace Cert.KernelIdeal.Moe

open Idealize.ShloMosaic Idealize.ShloMosaic.TcCoe
open Idealize.SL Idealize.SL.Sem
open Cert.KernelIdeal Cert.KernelIdeal.Gen

variable {F : FTy → Type} [FloatOps F]

/-! ## The devices exchanging with one another -/

/-- The device that differs on the last mesh axis only. -/
def peer (c : Dev nD) : Dev nD := ⟨(4 * (c.val / 4) + 2 * ((c.val / 2) % 2) + 1) - c.val % 2, by revert c; decide⟩
/-- The lower and the upper device of `c`'s pair. -/
def lo (c : Dev nD) : Dev nD := ⟨2 * (c.val / 2), by revert c; decide⟩
def hi (c : Dev nD) : Dev nD := ⟨2 * (c.val / 2) + 1, by revert c; decide⟩

theorem peer_peer (c : Dev nD) : peer (peer c) = c := by revert c; decide
theorem peer_ne (c : Dev nD) : peer c ≠ c := by revert c; decide
theorem peer_mod (c : Dev nD) : (peer c).val % 2 = 1 - c.val % 2 := by revert c; decide
theorem lo_peer (c : Dev nD) : lo (peer c) = lo c := by revert c; decide
theorem hi_peer (c : Dev nD) : hi (peer c) = hi c := by revert c; decide
theorem lo_of (c : Dev nD) (h : c.val % 2 = 0) : lo c = c := by revert c; decide
theorem hi_of (c : Dev nD) (h : c.val % 2 = 1) : hi c = c := by revert c; decide

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)

/-- Pairing a device with its peer. -/
def pairing : Dev nD ≃ Dev nD := ⟨peer, peer, peer_peer, peer_peer⟩

/-! ## What the buffers come to hold -/

variable (m : (ℓ : Loc nD τ sig) → Buf (Elt F) ℓ)

/-- The staged block of the tokens. -/
def xin (c : Dev nD) : Vec F S1024x1024 .f32 := (win0_0.blk (0 : Fin 1)).view.read (Elt F) (m ((c : Thread nD τ).loc main_arg0))
/-- The staged block of the router. -/
def rin (c : Dev nD) : Vec F S1024x8 .f32 := (win0_1.blk (0 : Fin 1)).view.read (Elt F) (m ((c : Thread nD τ).loc main_arg1))
/-- The device's first weights. -/
def w1in (c : Dev nD) : Vec F S8x1024x4096 .f32 := m ((c : Thread nD τ).loc main_arg2)
/-- The device's second weights. -/
def w2in (c : Dev nD) : Vec F S8x4096x1024 .f32 := m ((c : Thread nD τ).loc main_arg3)

/-- All tokens: the lower device's block above the upper's. -/
def XF (c : Dev nD) : Vec F S2048x1024 .f32 := fun i =>
  if (i (0 : Fin 2)).val < 1024 then xin m (lo c) (ValueIdx.ix2 ⟨(i (0 : Fin 2)).val % 1024, Nat.mod_lt _ (by decide)⟩ (i (1 : Fin 2)))
  else xin m (hi c) (ValueIdx.ix2 ⟨(i (0 : Fin 2)).val % 1024, Nat.mod_lt _ (by decide)⟩ (i (1 : Fin 2)))

/-- Both router blocks: the lower device's, then the upper's. -/
def RH (c : Dev nD) : Vec F S2x1024x8 .f32 := fun i =>
  if (i (0 : Fin 3)).val = 0 then rin m (lo c) (ValueIdx.ix2 (i (1 : Fin 3)) (i (2 : Fin 3)))
  else rin m (hi c) (ValueIdx.ix2 (i (1 : Fin 3)) (i (2 : Fin 3)))

/-- The half of the router stored at `h`. -/
def rhalf (c : Dev nD) (h : Fin 2) : Vec F S1x1024x8 .f32 := fun x =>
  RH m c ((Rect.unit (s := S2x1024x8) ![h.val, 0, 0] S1x1024x8.size (by revert h; decide)).emb x)

/-- The weights of the device's experts. -/
def WL (c : Dev nD) : Vec F S2048x8 .f32 :=
  k0_pay11 (myZ c) (k0_pay6 (rhalf m c 0) (rhalf m c 1) (XF m c)) (k0_pay7 (rhalf m c 0) (rhalf m c 1) (XF m c))
    (k0_pay8 (rhalf m c 0) (rhalf m c 1) (XF m c)) (k0_pay9 (rhalf m c 0) (rhalf m c 1) (XF m c))
/-- The ranks of the tokens at the device's experts. -/
def RK (c : Dev nD) : Vec F S2048x8 .f32 :=
  k0_pay12 (myZ c) (k0_pay6 (rhalf m c 0) (rhalf m c 1) (XF m c)) (k0_pay7 (rhalf m c 0) (rhalf m c 1) (XF m c))
    (k0_pay8 (rhalf m c 0) (rhalf m c 1) (XF m c)) (k0_pay9 (rhalf m c 0) (rhalf m c 1) (XF m c))

/-- Column `e`. -/
def colOf (e : Fin 8) (X : Vec F S2048x8 .f32) : Vec F S2048x1 .f32 := fun x =>
  X ((Rect.unit (s := S2048x8) ![0, e.val] S2048x1.size (inb_col e)).emb x)

/-- Chunk `f` of expert `e`'s two weights. -/
def chunkOf (c : Dev nD) (e : Fin 8) (f : Fin 4) : Vec F S1x1024x1024 .f32 × Vec F S1x1024x1024 .f32 :=
  (fun x => w1in m c ((Rect.unit (s := S8x1024x4096) ![e.val, 0, 1024 * f.val] S1x1024x1024.size (inb_w1 e f)).emb x),
   fun x => w2in m c ((Rect.unit (s := S8x4096x1024) ![e.val, 1024 * f.val, 0] S1x1024x1024.size (inb_w2 e f)).emb x))

/-- The accumulator after expert `n`. -/
def ACC (c : Dev nD) : ℕ → Vec F S2048x1024 .f32
  | 0 => first (colOf 0 (RK m c)) (XF m c) (chunkOf m c 0) (colOf 0 (WL m c))
  | n + 1 => later (colOf (Fin.ofNat 8 (n + 1)) (RK m c)) (XF m c) (chunkOf m c (Fin.ofNat 8 (n + 1))) (colOf (Fin.ofNat 8 (n + 1)) (WL m c)) (ACC c n)

/-- The rows of the accumulator the device sends. -/
abbrev accOut (c : Dev nD) : Memref sig .tc .vmem S1024x1024 .f32 :=
  accM.slice (Rect.unit (s := S2048x1024) (k0_off4 c) S1024x1024.size (k0_off4_inb c)) (fun _ => rfl)
/-- The rows of the accumulator the device keeps. -/
abbrev accOwn (c : Dev nD) : Rect S2048x1024 := Rect.unit (s := S2048x1024) (k0_off3 c) S1024x1024.size (k0_off3_inb c)

/-- What arrives from the peer. -/
def arrived (c : Dev nD) : Vec F S1024x1024 .f32 := (accOut (peer c)).view.read (Elt F) (ACC m (peer c) 7)
/-- The device's block of the result. -/
def OUT (c : Dev nD) : Vec F S1024x1024 .f32 := k0_pay1 (arrived m c) (accM.view.readAt (Elt F) (accOwn c).toLoadRect (ACC m c 7))

/-! ## Reading and writing slices -/

/-- Contents written through a view are the contents wanted, where the written vector reads as them. -/
theorem write_eq_on {sp : Space} {s : Shape} {e : EltTy} {κ : Kind} (v : View sig κ sp s e) (f C : v.ty.Contents (Elt F)) (w : s.Idx → Elt F e)
    (h : v.read (Elt F) C = w) : ∀ i ∈ v.set, v.write (Elt F) f w Finset.univ i = C i := by
  subst h
  intro i hi
  obtain ⟨x, -, rfl⟩ := Finset.mem_map.mp hi
  rw [View.write_emb, if_pos (Finset.mem_univ _)]
  simp [View.read]

/-- The rows of all tokens at the place of `d`, a device of `c`'s pair, are `d`'s block; -/
theorem read_XF (c d : Dev nD) (hl : lo d = lo c) (hh : hi d = hi c) (off : Fin 2 → ℕ) (h : off = ![1024 * (d.val % 2), 0])
    (inb : ∀ a, off a + S1024x1024.size a ≤ S2048x1024.size a) :
    (xfM.view.slice (Rect.unit (s := S2048x1024) off S1024x1024.size inb)).read (Elt F) (XF m c) = xin m d := by
  subst h
  funext x
  have hx := ValueIdx.idx2_lt0 (n0 := 1024) (n1 := 1024) x
  show XF m c ((Rect.unit (s := S2048x1024) ![1024 * (d.val % 2), 0] S1024x1024.size inb).emb x) = xin m d x
  generalize hi : (Rect.unit (s := S2048x1024) ![1024 * (d.val % 2), 0] S1024x1024.size inb).emb x = i
  have h0 : (i (0 : Fin 2)).val = 1024 * (d.val % 2) + (x (0 : Fin 2)).val := by
    subst hi; exact congrArg (1024 * (d.val % 2) + ·) (Nat.one_mul _)
  have h1 : (i (1 : Fin 2)).val = (x (1 : Fin 2)).val := by subst hi; exact (Nat.zero_add _).trans (Nat.one_mul _)
  have he : ValueIdx.ix2 (⟨(i (0 : Fin 2)).val % 1024, Nat.mod_lt _ (by decide)⟩ : Fin 1024) (i (1 : Fin 2)) = x := by
    funext a
    match a with
    | ⟨0, _⟩ => exact Fin.ext (show (i (0 : Fin 2)).val % 1024 = (x (0 : Fin 2)).val by omega)
    | ⟨1, _⟩ => exact Fin.ext h1
  rcases Nat.mod_two_eq_zero_or_one d.val with hd | hd
  · exact (if_pos (by omega)).trans ((congrArg (xin m (lo c)) he).trans (by rw [← hl, lo_of d hd]))
  · exact (if_neg (by omega)).trans ((congrArg (xin m (Moe.hi c)) he).trans (by rw [← hh, hi_of d hd]))

/-- and the half of the router at the place of `d` is `d`'s block. -/
theorem RH_apply (c d : Dev nD) (hl : lo d = lo c) (hh : hi d = hi c) (i : S2x1024x8.Idx) (h : (i (0 : Fin 3)).val = d.val % 2) :
    RH m c i = rin m d (ValueIdx.ix2 (i (1 : Fin 3)) (i (2 : Fin 3))) := by
  unfold RH
  rcases Nat.mod_two_eq_zero_or_one d.val with hd | hd
  · rw [if_pos (by omega), ← hl, lo_of d hd]
  · rw [if_neg (by omega), ← hh, hi_of d hd]

theorem read_RH (c d : Dev nD) (hl : lo d = lo c) (hh : hi d = hi c) (off : Fin 3 → ℕ) (h : off = ![d.val % 2, 0, 0])
    (inb : ∀ a, off a + S1x1024x8.size a ≤ S2x1024x8.size a) :
    (rhM.view.slice (Rect.unit (s := S2x1024x8) off S1x1024x8.size inb)).read (Elt F) (RH m c)
      = fun x => rin m d (ValueIdx.ix2 (x (1 : Fin 3)) (x (2 : Fin 3))) := by
  subst h
  funext x
  show RH m c ((Rect.unit (s := S2x1024x8) ![d.val % 2, 0, 0] S1x1024x8.size inb).emb x) = _
  rw [RH_apply m c d hl hh]
  · congr 1
    funext a
    match a with
    | ⟨0, _⟩ => exact Fin.ext ((Nat.zero_add _).trans (Nat.one_mul _))
    | ⟨1, _⟩ => exact Fin.ext ((Nat.zero_add _).trans (Nat.one_mul _))
  · have hx : (x (0 : Fin 3)).val < 1 := (x (0 : Fin 3)).isLt
    show d.val % 2 + 1 * (x (0 : Fin 3)).val = _
    omega

theorem read_RH_squeezed (c d : Dev nD) (hl : lo d = lo c) (hh : hi d = hi c) (off : Fin 3 → ℕ) (h : off = ![d.val % 2, 0, 0])
    (inb : ∀ a, off a + S1x1024x8.size a ≤ S2x1024x8.size a) :
    ((rhM.slice (Rect.unit (s := S2x1024x8) off S1x1024x8.size inb) (fun _ => rfl)).squeeze S1024x8 squeezes_S1x1024x8_S1024x8).view.read (Elt F) (RH m c)
      = rin m d := by
  funext x
  refine (congrFun (read_RH m c d hl hh off h inb) (Shape.reshapeEquiv squeezes_S1x1024x8_S1024x8.numel_eq x)).trans ?_
  obtain ⟨a, b, rfl⟩ : ∃ (a : Fin 1024) (b : Fin 8), x = ValueIdx.ix2 a b := ⟨_, _, ValueIdx.eq_ix2 x⟩
  rw [ValueIdx.reshapeEquiv_ix2_1ab]

theorem pay2_eq (v : Vec F S1024x1024 .f32) : k0_pay2 v = v := by
  unfold k0_pay2; exact (shapeCast_self _ _).trans (shapeCast_self _ _)

theorem pay3_eq (v : Vec F S1024x8 .f32) : k0_pay3 v = fun x => v (ValueIdx.ix2 (x (1 : Fin 3)) (x (2 : Fin 3))) := by
  unfold k0_pay3
  funext x
  refine (ValueIdx.shapeCast_ab_1ab_apply _ _ _ _ _).trans ?_
  exact congrFun (shapeCast_self v _) _

theorem pay4_eq (v : Vec F S1024x8 .f32) : k0_pay4 v = fun x => v (ValueIdx.ix2 (x (1 : Fin 3)) (x (2 : Fin 3))) := pay3_eq v

/-- A pair holds the same tokens and router. -/
theorem XF_peer (c : Dev nD) : XF m (peer c) = XF m c := by unfold XF; rw [lo_peer, hi_peer]
theorem RH_peer (c : Dev nD) : RH m (peer c) = RH m c := by unfold RH; rw [lo_peer, hi_peer]

/-- An index of a slot is a chunk's index with the unit axis put back. -/
theorem slot_idx (x : S1x1024x1024.Idx) :
    ∃ y : S1024x1024.Idx, x = Shape.reshapeEquiv squeezes_S1x1024x1024_S1024x1024.numel_eq y := by
  refine ⟨ValueIdx.ix2 (x (1 : Fin 3)) (x (2 : Fin 3)), ?_⟩
  refine Eq.trans ?_ (ValueIdx.reshapeEquiv_ix2_1ab squeezes_S1x1024x1024_S1024x1024.numel_eq (x (1 : Fin 3)) (x (2 : Fin 3))).symm
  funext a
  match a with
  | ⟨0, _⟩ => exact Fin.ext (Nat.lt_one_iff.mp (x (0 : Fin 3)).isLt)
  | ⟨1, _⟩ => rfl
  | ⟨2, _⟩ => rfl

/-- Reading a slot's rectangle after a chunk has landed in it gives the chunk. -/
theorem slot1_landed (c : Dev nD) (e : Fin 8) (f : Fin 4) (b : Fin 2) (fd : c1M.view.ty.Contents (Elt F)) :
    c1M.view.readAt (Elt F) (Rect.unit (s := S2x1024x1024) ![b.val, 0, 0] S1x1024x1024.size (inb_slot b)).toLoadRect
      ((c1Slot b).view.write (Elt F) fd ((w1Chunk e f).view.read (Elt F) (w1in m c)) Finset.univ) = (chunkOf m c e f).1 := by
  funext x
  obtain ⟨y, rfl⟩ := slot_idx x
  exact congrFun (View.read_write_univ (v := (c1Slot b).view) (Val := Elt F) fd ((w1Chunk e f).view.read (Elt F) (w1in m c))) y
theorem slot2_landed (c : Dev nD) (e : Fin 8) (f : Fin 4) (b : Fin 2) (fd : c2M.view.ty.Contents (Elt F)) :
    c2M.view.readAt (Elt F) (Rect.unit (s := S2x1024x1024) ![b.val, 0, 0] S1x1024x1024.size (inb_slot b)).toLoadRect
      ((c2Slot b).view.write (Elt F) fd ((w2Chunk e f).view.read (Elt F) (w2in m c)) Finset.univ) = (chunkOf m c e f).2 := by
  funext x
  obtain ⟨y, rfl⟩ := slot_idx x
  exact congrFun (View.read_write_univ (v := (c2Slot b).view) (Val := Elt F) fd ((w2Chunk e f).view.read (Elt F) (w2in m c))) y

end Cert.KernelIdeal.Moe

end

end
-- ==== Proof.Proto.lean ====
module

public import proofs.«01_k».proof.Proof.Values
public import Idealize.ShloMosaic.Lib.Pipeline.Launch
public import Idealize.ShloMosaic.Lib.Pipeline.Kit
public import Idealize.ShloMosaic.Lib.Transfers
public import Idealize.ShloMosaic.Lib.Tactic

/-!
# The protocol

Devices are paired along the last mesh axis. Each device has seven cells, each with one round of one duty:

* its barrier, paid by the peer: one unit, handing over the peer's half of the token buffer that is to be written from
  here, the peer's half of the router buffer and the peer's staged result (where the peer lets the last transfer land);
* for each of the three transfers (tokens, router, contributions) a send cell, which gives the source back, and a
  receive cell, paid by the peer's transfer, which gives the landed buffer with its contents.

A device owes its peer the barrier unit and the three receive credits. Barriers are at level 1, the first two receive
cells at 2, the last at 3, all other semaphores at 0.
-/

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

abbrev barS : Sem sig := (SemArray.scalar (sig.barrier 0 rfl) : Sems sig S_).sem

/-- The kernel's own semaphores: the six of the transfers between devices, then the slots' four. -/
abbrev osem : Fin 10 → SemLoc sig := fun
  | 0 => .dma cc0_scratch7.sem | 1 => .dma cc0_scratch8.sem | 2 => .dma cc0_scratch9.sem | 3 => .dma cc0_scratch10.sem
  | 4 => .dma cc0_scratch11.sem | 5 => .dma cc0_scratch12.sem
  | 6 => .dma (s1 0).sem | 7 => .dma (s1 1).sem | 8 => .dma (s2 0).sem | 9 => .dma (s2 1).sem

/-- The semaphores of the protocol: the barrier, then send and receive of the tokens, the router, the contributions. -/
abbrev csem : Fin 7 → SemLoc sig := fun
  | 0 => .reg barS | 1 => .dma cc0_scratch7.sem | 2 => .dma cc0_scratch8.sem | 3 => .dma cc0_scratch9.sem
  | 4 => .dma cc0_scratch10.sem | 5 => .dma cc0_scratch11.sem | 6 => .dma cc0_scratch12.sem
abbrev kcell (ck : Dev nD × Fin 7) : GSem nD τ sig := ((ck.1 : Thread nD τ), csem ck.2)

theorem csem_injective : Function.Injective csem := by
  intro k k' h
  fin_cases k <;> fin_cases k' <;> first | rfl | exact absurd h (by decide)

/-- Which of the protocol's semaphores a semaphore is. -/
def kind (sm : SemLoc sig) : Option (Fin 7) := (List.finRange 7).find? fun k => csem k = sm
theorem kind_csem (k : Fin 7) : kind (csem k) = some k := by fin_cases k <;> decide

/-- The rows of the peer's token buffer a device writes, and the half of the peer's router buffer. -/
abbrev xS (c : Dev nD) : Memref sig .tc .vmem S1024x1024 .f32 :=
  xfM.slice (Rect.unit (s := S2048x1024) (k0_off1 c) S1024x1024.size (k0_off1_inb c)) (fun _ => rfl)
abbrev rS (c : Dev nD) : Memref sig .tc .vmem S1024x8 .f32 :=
  (rhM.slice (Rect.unit (s := S2x1024x8) (k0_off2 c) S1x1024x8.size (k0_off2_inb c)) (fun _ => rfl)).squeeze S1024x8 squeezes_S1x1024x8_S1024x8

/-- The credits of the transfers: a block of tokens or contributions, a block of the router. -/
abbrev Nx : ℕ := (xM : Memref sig .tc .vmem S1024x1024 .f32).view.dmaCredit
abbrev Nr : ℕ := (rM : Memref sig .tc .vmem S1024x8 .f32).view.dmaCredit
theorem Nx_pos : 0 < Nx := View.dmaCredit_pos _ (by decide)
theorem Nr_pos : 0 < Nr := View.dmaCredit_pos _ (by decide)

/-- A memref's elements on a device, at a share, with contents. -/
def pts {sp : Space} {s : Shape} {e : EltTy} (c : Dev nD) (M : Memref sig .tc sp s e) (q : PosShare TreeShare)
    (f : M.view.ty.Contents (Elt F)) : sProp 𝕄 := M.view.loc (c : Thread nD τ) ↦[M.view.set]{q} f

instance pts_storable {sp : Space} {s : Shape} {e : EltTy} (c : Dev nD) (M : Memref sig .tc sp s e) (q : PosShare TreeShare)
    (f : M.view.ty.Contents (Elt F)) : BI.Storable (upEmb : UEmb _ 𝕄) (pts c M q f) := by unfold pts; infer_instance

/-! ## The schedule -/

/-- What the peer's barrier signal hands a device. -/
def barPay (c : Dev nD) : sProp 𝕄 :=
  iprop((∃ f, pts (peer c) (xS c) fullShare f) ∗ (∃ f, pts (peer c) (rS c) fullShare f) ∗ (∃ f, pts (peer c) outM fullShare f))

/-- The payload of each of a device's cells. -/
def pay (c : Dev nD) : Fin 7 → sProp 𝕄 := fun
  | 0 => barPay c
  | 1 => pts c xM fullShare.left (xin m c)
  | 2 => pts c (xS (peer c)) fullShare (XF m c)
  | 3 => pts c rM fullShare.left (rin m c)
  | 4 => pts c (rS (peer c)) fullShare (RH m c)
  | 5 => pts c (accOut c) fullShare (ACC m c 7)
  | 6 => pts c outM fullShare (arrived m c)

instance pay_storable (c : Dev nD) (k : Fin 7) : BI.Storable (upEmb : UEmb _ 𝕄) (pay m c k) := by
  unfold pay barPay; fin_cases k <;> infer_instance

/-- The units of each kind of cell. -/
def amt : Fin 7 → ℕ := fun | 0 => 1 | 1 => Nx | 2 => Nx | 3 => Nr | 4 => Nr | 5 => Nx | 6 => Nx
theorem amt_pos (k : Fin 7) : 0 < amt k := by
  fin_cases k <;> first | exact Nat.one_pos | exact Nx_pos | exact Nr_pos

/-- One round of one duty at each cell. -/
def Rd : Rounds.Schedule (GSem nD τ sig) Unit 𝕄 where
  duties g r := if r = 0 ∧ g.1.2 = .tc ∧ (kind g.2).isSome then {()} else ∅
  unitless _ := False
  amount g _ _ := match kind g.2 with | some k => amt k | none => 1
  payload g _ _ := match kind g.2 with | some k => pay m g.1.1 k | none => iprop(emp)
  amount_pos g _ _ _ := by
    cases kind g.2 with
    | some k => exact amt_pos k
    | none => exact Nat.one_pos

instance Rd_payload_storable (g : GSem nD τ sig) (r : ℕ) (d : Unit) : BI.Storable (upEmb : UEmb _ 𝕄) ((Rd (F := F) m).payload g r d) := by
  show BI.Storable upEmb (match kind g.2 with | some k => pay m g.1.1 k | none => iprop(emp))
  cases kind g.2 <;> infer_instance

section Sched
variable (c : Dev nD) (k : Fin 7)

theorem Rd_duties : (Rd (F := F) m).duties (kcell (c, k)) 0 = {()} := by
  dsimp only [Rd, kcell]; rw [kind_csem]; exact if_pos ⟨rfl, rfl, rfl⟩
theorem Rd_duties_later (g : GSem nD τ sig) : ∀ r, 1 ≤ r → (Rd (F := F) m).duties g r = ∅ :=
  fun r hr => by dsimp only [Rd]; rw [if_neg fun h => by omega]
theorem Rd_amount (d : Unit) : (Rd (F := F) m).amount (kcell (c, k)) 0 d = amt k := by dsimp only [Rd, kcell]; rw [kind_csem]
theorem Rd_expect : (Rd (F := F) m).expect (kcell (c, k)) 0 = amt k := by
  unfold Schedule.expect Schedule.amountOf; rw [Rd_duties, Finset.sum_singleton, Rd_amount]
theorem Rd_payload (d : Unit) : (Rd (F := F) m).payload (kcell (c, k)) 0 d = pay m c k := by dsimp only [Rd, kcell]; rw [kind_csem]
theorem Rd_rest : bigSep ((Rd (F := F) m).duties (kcell (c, k)) 0 \ ∅) (fun d => (Rd (F := F) m).payload (kcell (c, k)) 0 d) = pay m c k := by
  rw [Finset.sdiff_empty, Rd_duties, bigSep_singleton, Rd_payload]
theorem Rd_mem : () ∈ (Rd (F := F) m).duties (kcell (c, k)) 0 := by rw [Rd_duties]; exact Finset.mem_singleton_self _

end Sched

/-! ## What each device owes at launch; the levels -/

/-- What a device owes from the first wait of the second exchange on, -/
def O₁ (c : Dev nD) : CellTallies nD τ sig Unit := tallyAt (kcell (peer c, 6)) () Nx
/-- before the router's transfer, -/
def O₂ (c : Dev nD) : CellTallies nD τ sig Unit := O₁ c + tallyAt (kcell (peer c, 4)) () Nr
/-- before the tokens' transfer, -/
def O₃ (c : Dev nD) : CellTallies nD τ sig Unit := O₂ c + tallyAt (kcell (peer c, 2)) () Nx
/-- and at launch. -/
def O₀ (c : Dev nD) : CellTallies nD τ sig Unit := O₃ c + tallyAt (kcell (peer c, 0)) () 1

def L (g : GSem nD τ sig) : Finset Unit := if g.1.2 = .tc then {()} else ∅
def lvK : Fin 7 → ℕ := fun | 0 => 1 | 2 => 2 | 4 => 2 | 6 => 3 | _ => 0
def lv (g : GSem nD τ sig) (_ : Unit) : ℕ := match kind g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Fin 7) (u : Unit) : lv (kcell (c, k)) u = lvK k := by dsimp only [lv, kcell]; rw [kind_csem]

/-- Owing only cells of the protocol above level `n`. -/
def Above (n : ℕ) (O : CellTallies nD τ sig Unit) : Prop := ∀ g u, 0 < O g u → ∃ d k, g = kcell (d, k) ∧ n < lvK k

theorem above_tally (n : ℕ) (d : Dev nD) (k : Fin 7) (N : ℕ) (h : n < lvK k) : Above n (tallyAt (kcell (d, k)) () N) := by
  intro g u hg
  rw [tallyAt_apply] at hg
  by_cases h' : g = kcell (d, k) ∧ u = ()
  · exact ⟨d, k, h'.1, h⟩
  · rw [if_neg h'] at hg; exact absurd hg (Nat.lt_irrefl 0)
theorem Above.add {n : ℕ} {A B : CellTallies nD τ sig Unit} (hA : Above n A) (hB : Above n B) : Above n (A + B) := by
  intro g u hg
  rw [Pi.add_apply, Finsupp.add_apply] at hg
  rcases Nat.eq_zero_or_pos (A g u) with h | h
  · exact hB g u (by omega)
  · exact hA g u h
theorem above_O₁ (c : Dev nD) (n : ℕ) (h : n < 3) : Above n (O₁ c) := above_tally n _ 6 _ h
theorem above_O₃ (c : Dev nD) (n : ℕ) (h : n < 2) : Above n (O₃ c) :=
  ((above_O₁ c n (h.trans (by decide))).add (above_tally n _ 4 _ h)).add (above_tally n _ 2 _ h)
theorem above_O₀ (c : Dev nD) : Above 0 (O₀ c) := (above_O₃ c 0 (by decide)).add (above_tally 0 _ 0 _ (by decide))
theorem above_zero (n : ℕ) : Above n 0 := fun _ _ h => absurd h (Nat.lt_irrefl 0)

/-- A wait is allowed on a semaphore below everything owed. -/
theorem mayWait (c : Dev nD) (sm : SemLoc sig) (n : ℕ) (hn : lv ((c : Thread nD τ), sm) () ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, k, rfl, -⟩ := hO g u hg; rw [L_tc]; exact Finset.mem_singleton_self _)
    (fun p hp => by rw [Finset.mem_singleton.mp hp]; exact hn)
    (fun g u hg => by obtain ⟨d, k, rfl, h⟩ := hO g u hg; rw [lv_kcell]; exact h)

end Cert.KernelIdeal.Moe

end

end
-- ==== Proof.Chunks.lean ====
module

public import proofs.«01_k».proof.Proof.Proto

/-!
# The experts on one device

The two slots of each weight buffer are filled by local transfers, one chunk ahead of its use. A slot is either idle or
in flight; the weights in HBM are held in two halves, one for each slot's transfers.
-/

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers (Flight wp_dmaLocal wp_waitLocalO)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program on a device's core. -/
abbrev run {α : Type} (c : Dev nD) (p : KProg F α) (Q : α → sProp 𝕄) : sProp 𝕄 :=
  wp frame (wpE (defs₀ (F := F)) 𝒱₀ (c : Thread nD τ) none) Set.univ p Q

/-- What a device owes, whatever it has waited on. -/
def owing (c : Dev nD) (O : CellTallies nD τ sig Unit) : sProp 𝕄 := iprop(∃ W, owes (c : Thread nD τ) O W)

/-! ## Loads and stores of a memref held by its elements -/

theorem run_load {α : Type} {sp : CoreSpace} {s : Shape} {e : EltTy} (c : Dev nD) (M : Memref sig .tc sp s e) (q : PosShare TreeShare)
    (f : M.view.ty.Contents (Elt F)) (r : LoadRect s) (hl : M.view.LoadsAt r) (k : (r.shape.Idx → Elt F e) → KProg F α) (Q : α → sProp 𝕄) :
    iprop(pts c M q f ∗ (pts c M q f -∗ run c (k (M.view.readAt (Elt F) r f)) Q)) ⊢ run c (.op (.load M r hl) k) Q := by
  unfold pts
  iintro ⟨H, Hk⟩
  iapply (wp_load 𝒱₀ (c : Thread nD τ) none Set.univ (m := M) (S := M.view.set) (Finset.map_subset_map.mpr (Finset.subset_univ _))) $$ H
  iexact Hk

theorem run_store {α : Type} {sp : CoreSpace} {s : Shape} {e : EltTy} (c : Dev nD) (M : Memref sig .tc sp s e)
    (f : M.view.ty.Contents (Elt F)) (r : Rect s) (w : r.shape.Idx → Elt F e) (hx : (M.access r).Stores Finset.univ) (hm)
    (k : PUnit → KProg F α) (Q : α → sProp 𝕄) :
    iprop(pts c M fullShare f ∗ (pts c M fullShare ((M.access r).write (Elt F) f w Finset.univ) -∗ run c (k ⟨⟩) Q))
      ⊢ run c (.op (.store M r w Finset.univ hx hm) k) Q := by
  unfold pts
  iintro ⟨H, Hk⟩
  iapply (wp_store 𝒱₀ (c : Thread nD τ) none Set.univ (m := M) (r := r) (Mk := Finset.univ) (S := M.view.set)
    (by rw [show (M.access r).setOn Finset.univ = (M.view.slice r).set from rfl, View.set_slice]; exact Finset.map_subset_map.mpr (Finset.subset_univ _))) $$ H
  iexact Hk

/-! ## Slots -/

/-- The half of the weights slot `b`'s transfers read. -/
def hf : Fin 2 → PosShare TreeShare := fun | 0 => fullShare.left | 1 => fullShare.right

/-- The credit of a chunk. -/
abbrev Nw : ℕ := (c1Slot 0).view.dmaCredit
theorem Nw_pos : 0 < Nw := View.dmaCredit_pos _ (by decide)

def slotIdle (c : Dev nD) (b : Fin 2) : sProp 𝕄 :=
  iprop((∃ f, pts c (c1Slot b) fullShare f) ∗ (∃ f, pts c (c2Slot b) fullShare f) ∗ pts c W1M (hf b) (w1in m c) ∗ pts c W2M (hf b) (w2in m c)
    ∗ semVal ((c : Thread nD τ), .dma (s1 b).sem) 0 ∗ semVal ((c : Thread nD τ), .dma (s2 b).sem) 0)

/-- What the transfer of chunk `f` of expert `e`'s first weights delivers in slot `b`. -/
def deliv1 (c : Dev nD) (e : Fin 8) (f : Fin 4) (b : Fin 2) (fd : c1M.view.ty.Contents (Elt F)) : sProp 𝕄 :=
  iprop(((c1Slot b).view.loc (c : Thread nD τ) ↦[(c1Slot b).view.set]{fullShare} (c1Slot b).view.write (Elt F) fd (ReadAs.same.apply ((w1Chunk e f).view.read (Elt F) (w1in m c))) Finset.univ)
    ∗ ((w1Chunk e f).view.loc (c : Thread nD τ) ↦[(w1Chunk e f).view.set]{hf b} w1in m c))
def deliv2 (c : Dev nD) (e : Fin 8) (f : Fin 4) (b : Fin 2) (fd : c2M.view.ty.Contents (Elt F)) : sProp 𝕄 :=
  iprop(((c2Slot b).view.loc (c : Thread nD τ) ↦[(c2Slot b).view.set]{fullShare} (c2Slot b).view.write (Elt F) fd (ReadAs.same.apply ((w2Chunk e f).view.read (Elt F) (w2in m c))) Finset.univ)
    ∗ ((w2Chunk e f).view.loc (c : Thread nD τ) ↦[(w2Chunk e f).view.set]{hf b} w2in m c))

def slotFlight (c : Dev nD) (e : Fin 8) (f : Fin 4) (b : Fin 2) : sProp 𝕄 :=
  iprop((∃ fd, Flight countersEmb (c : Thread nD τ) (.dma (s1 b).sem) () Nw (deliv1 m c e f b fd))
    ∗ (W1M.view.loc (c : Thread nD τ) ↦[W1M.view.set \ (w1Chunk e f).view.set]{hf b} w1in m c)
    ∗ (∃ fd, Flight countersEmb (c : Thread nD τ) (.dma (s2 b).sem) () Nw (deliv2 m c e f b fd))
    ∗ (W2M.view.loc (c : Thread nD τ) ↦[W2M.view.set \ (w2Chunk e f).view.set]{hf b} w2in m c))

theorem w1_sub (e : Fin 8) (f : Fin 4) : (w1Chunk e f).view.set ⊆ W1M.view.set := by
  rw [show W1M.view.set = Finset.univ from View.set_whole _]; exact Finset.subset_univ _
theorem w2_sub (e : Fin 8) (f : Fin 4) : (w2Chunk e f).view.set ⊆ W2M.view.set := by
  rw [show W2M.view.set = Finset.univ from View.set_whole _]; exact Finset.subset_univ _

/-- Starting a pair of transfers into an idle slot. -/
theorem start_spec (c : Dev nD) (e : Fin 8) (f : Fin 4) (b : Fin 2) (Kt : PUnit → sProp 𝕄) :
    iprop(slotIdle m c b ∗ (slotFlight m c e f b -∗ Kt ⟨⟩)) ⊢ run c (startPair e f b) Kt := by
  unfold startPair
  simp only [Prog.lift, Prog.bind_op, Prog.bind_ret, Prog.pure_eq_ret]
  unfold slotIdle pts
  iintro ⟨⟨⟨%f1, H1⟩, ⟨%f2, H2⟩, HW1, HW2, Hs1, Hs2⟩, Hk⟩
  ihave HW1 := (pointsTo_split_subset (w1_sub e f)).1 $$ HW1
  icases HW1 with ⟨HA1, HB1⟩
  ihave HW2 := (pointsTo_split_subset (w2_sub e f)).1 $$ HW2
  icases HW2 with ⟨HA2, HB2⟩
  iapply (wp_dmaLocal countersEmb 𝒱₀ (c : Thread nD τ) none (src := w1Chunk e f) (dst := c1Slot b) () Nw rfl Nw_pos subset_rfl) $$ [HA1 H1 Hs1]
  · isplitl [HA1]; · iexact HA1
    isplitl [H1]; · iexact H1
    iexact Hs1
  iintro HF1
  iapply (wp_dmaLocal countersEmb 𝒱₀ (c : Thread nD τ) none (src := w2Chunk e f) (dst := c2Slot b) () Nw rfl Nw_pos subset_rfl) $$ [HA2 H2 Hs2]
  · isplitl [HA2]; · iexact HA2
    isplitl [H2]; · iexact H2
    iexact Hs2
  iintro HF2
  rw [wp_ret]; imodintro
  iapply Hk
  unfold slotFlight deliv1 deliv2
  isplitl [HF1]; · iexists f1; iexact HF1
  isplitl [HB1]; · iexact HB1
  isplitl [HF2]; · iexists f2; iexact HF2
  iexact HB2

theorem lv_s1 (c : Dev nD) (b : Fin 2) : lv ((c : Thread nD τ), .dma (s1 b).sem) () ≤ 0 := by
  have : kind (.dma (s1 b).sem) = none := by revert b; decide
  dsimp only [lv]; rw [this]
theorem lv_s2 (c : Dev nD) (b : Fin 2) : lv ((c : Thread nD τ), .dma (s2 b).sem) () ≤ 0 := by
  have : kind (.dma (s2 b).sem) = none := by revert b; decide
  dsimp only [lv]; rw [this]

theorem slot1_sub (b : Fin 2) :
    c1M.view.setOn (Rect.unit (s := S2x1024x1024) ![b.val, 0, 0] S1x1024x1024.size (inb_slot b)).toLoadRect.set ⊆ (c1Slot b).view.set :=
  ((View.set_reshape (c1M.view.slice _) _).trans (View.set_slice c1M.view _)).symm.le
theorem slot2_sub (b : Fin 2) :
    c2M.view.setOn (Rect.unit (s := S2x1024x1024) ![b.val, 0, 0] S1x1024x1024.size (inb_slot b)).toLoadRect.set ⊆ (c2Slot b).view.set :=
  ((View.set_reshape (c2M.view.slice _) _).trans (View.set_slice c2M.view _)).symm.le

/-- Taking a pair of chunks from a slot in flight. -/
theorem take_spec (c : Dev nD) (e : Fin 8) (f : Fin 4) (b : Fin 2) (O : CellTallies nD τ sig Unit) (hO : Above 0 O)
    (Kt : Vec F S1x1024x1024 .f32 × Vec F S1x1024x1024 .f32 → sProp 𝕄) :
    iprop(slotFlight m c e f b ∗ levAts L lv ∗ owing c O ∗ ((slotIdle m c b ∗ owing c O) -∗ Kt (chunkOf m c e f))) ⊢ run c (takePair e f b) Kt := by
  unfold takePair
  simp only [Prog.lift, Prog.bind_op, Prog.bind_ret, Prog.pure_eq_ret]
  unfold slotFlight owing
  iintro ⟨⟨⟨%f1, HF1⟩, HB1, ⟨%f2, HF2⟩, HB2⟩, #Hlev, ⟨%W, HO⟩, Hk⟩
  iapply (wp_waitLocalO countersEmb 𝒱₀ (c : Thread nD τ) none (sem := (s1 b).sem) (srcw := w1Chunk e f) (dstw := c1Slot b) () (N := Nw) rfl) $$ [HF1 HO]
  · isplitl [HF1]; · iexact HF1
    isplitl [HO]; · iexact HO
    iapply (mayWait c _ 0 (lv_s1 c b) O hO); iexact Hlev
  iintro ⟨HD1, Hs1, HO⟩
  iapply (wp_waitLocalO countersEmb 𝒱₀ (c : Thread nD τ) none (sem := (s2 b).sem) (srcw := w2Chunk e f) (dstw := c2Slot b) () (N := Nw) rfl) $$ [HF2 HO]
  · isplitl [HF2]; · iexact HF2
    isplitl [HO]; · iexact HO
    iapply (mayWait c _ 0 (lv_s2 c b) O hO); iexact Hlev
  iintro ⟨HD2, Hs2, HO⟩
  unfold deliv1 deliv2
  icases HD1 with ⟨H1, HA1⟩
  icases HD2 with ⟨H2, HA2⟩
  iapply (wp_load 𝒱₀ (c : Thread nD τ) none Set.univ (m := c1M) (slot1_sub b)) $$ H1
  iintro H1
  iapply (wp_load 𝒱₀ (c : Thread nD τ) none Set.univ (m := c2M) (slot2_sub b)) $$ H2
  iintro H2
  rw [wp_ret]; imodintro
  have hp : chunkOf m c e f
      = (c1M.view.readAt (Elt F) (Rect.unit (s := S2x1024x1024) ![b.val, 0, 0] S1x1024x1024.size (inb_slot b)).toLoadRect
          ((c1Slot b).view.write (Elt F) f1 (ReadAs.same.apply ((w1Chunk e f).view.read (Elt F) (w1in m c))) Finset.univ),
        c2M.view.readAt (Elt F) (Rect.unit (s := S2x1024x1024) ![b.val, 0, 0] S1x1024x1024.size (inb_slot b)).toLoadRect
          ((c2Slot b).view.write (Elt F) f2 (ReadAs.same.apply ((w2Chunk e f).view.read (Elt F) (w2in m c))) Finset.univ)) :=
    Prod.ext (slot1_landed m c e f b f1).symm (slot2_landed m c e f b f2).symm
  rw [hp]
  iapply Hk
  unfold slotIdle pts
  isplitr [HO]
  · isplitl [H1]; · iexists _; iexact H1
    isplitl [H2]; · iexists _; iexact H2
    isplitl [HA1 HB1]
    · iapply (pointsTo_split_subset (w1_sub e f)).2
      isplitl [HA1] <;> iassumption
    isplitl [HA2 HB2]
    · iapply (pointsTo_split_subset (w2_sub e f)).2
      isplitl [HA2] <;> iassumption
    isplitl [Hs1] <;> iassumption
  · iexists _; iexact HO

/-- The four chunks of an expert: the slots end as they began, slot 0 as `next` leaves it. -/
theorem four_spec (c : Dev nD) (e : Fin 8) (O : CellTallies nD τ sig Unit) (hO : Above 0 O) (next : KProg F PUnit) (R : sProp 𝕄)
    (hn : ∀ Kt : PUnit → sProp 𝕄, iprop(slotIdle m c 0 ∗ (R -∗ Kt ⟨⟩)) ⊢ run c next Kt)
    (k : (Fin 4 → Vec F S1x1024x1024 .f32 × Vec F S1x1024x1024 .f32) → KProg F PUnit) (Kt : PUnit → sProp 𝕄) :
    iprop(slotFlight m c e 0 0 ∗ slotIdle m c 1 ∗ levAts L lv ∗ owing c O
        ∗ ((R ∗ slotIdle m c 1 ∗ owing c O) -∗ run c (k (chunkOf m c e)) Kt)) ⊢ run c (fourChunks e next k) Kt := by
  unfold fourChunks
  simp only [run, wp_bind]
  iintro ⟨H0, H1, #Hlev, HO, Hk⟩
  iapply (start_spec m c e 1 1)
  isplitl [H1]; · iexact H1
  iintro H1
  iapply (take_spec m c e 0 0 O hO)
  isplitl [H0]; · iexact H0
  isplitr; · iexact Hlev
  isplitl [HO]; · iexact HO
  iintro ⟨H0, HO⟩
  iapply (start_spec m c e 2 0)
  isplitl [H0]; · iexact H0
  iintro H0
  iapply (take_spec m c e 1 1 O hO)
  isplitl [H1]; · iexact H1
  isplitr; · iexact Hlev
  isplitl [HO]; · iexact HO
  iintro ⟨H1, HO⟩
  iapply (start_spec m c e 3 1)
  isplitl [H1]; · iexact H1
  iintro H1
  iapply (take_spec m c e 2 0 O hO)
  isplitl [H0]; · iexact H0
  isplitr; · iexact Hlev
  isplitl [HO]; · iexact HO
  iintro ⟨H0, HO⟩
  iapply (hn _)
  isplitl [H0]; · iexact H0
  iintro HR
  iapply (take_spec m c e 3 1 O hO)
  isplitl [H1]; · iexact H1
  isplitr; · iexact Hlev
  isplitl [HO]; · iexact HO
  iintro ⟨H1, HO⟩
  rw [show (![chunkOf m c e 0, chunkOf m c e 1, chunkOf m c e 2, chunkOf m c e 3] : Fin 4 → _) = chunkOf m c e from
    funext fun f => by fin_cases f <;> rfl]
  iapply Hk
  isplitl [HR]; · iexact HR
  isplitl [H1] <;> iassumption

/-! ## Experts -/

/-- What the experts read: all tokens, the weights and the ranks. -/
def routed (c : Dev nD) : sProp 𝕄 :=
  iprop(pts c xfM fullShare (XF m c) ∗ pts c wlM fullShare (WL m c) ∗ pts c rkM fullShare (RK m c))

theorem hz : (![0, 0] : Fin 2 → Nat) = fun _ => 0 := funext fun a => by fin_cases a <;> rfl
theorem read_all (f : Vec F S2048x1024 .f32) :
    xfM.view.readAt (Elt F) (Rect.unit (s := S2048x1024) ![0, 0] S2048x1024.size inb_S2048x1024_S2048x1024_0_0).toLoadRect f = f :=
  Memref.readAt_unit_zero (Elt F) cc0_scratch0 hz _ f
theorem read_acc (f : Vec F S2048x1024 .f32) :
    accM.view.readAt (Elt F) (Rect.unit (s := S2048x1024) ![0, 0] S2048x1024.size inb_S2048x1024_S2048x1024_0_0).toLoadRect f = f :=
  Memref.readAt_unit_zero (Elt F) cc0_scratch4 hz _ f
theorem write_acc (f w : Vec F S2048x1024 .f32) :
    (accM.access (Rect.unit (s := S2048x1024) ![0, 0] S2048x1024.size inb_S2048x1024_S2048x1024_0_0) : View sig .tc _ _ _).write (Elt F) f w Finset.univ = w :=
  Memref.write_access_unit_zero_univ (Elt F) cc0_scratch4 hz _ f w

/-- The first expert fills the accumulator. -/
theorem expert0_spec (c : Dev nD) (O : CellTallies nD τ sig Unit) (hO : Above 0 O) (next : KProg F PUnit) (R : sProp 𝕄)
    (hn : ∀ Kt : PUnit → sProp 𝕄, iprop(slotIdle m c 0 ∗ (R -∗ Kt ⟨⟩)) ⊢ run c next Kt) (Kt : PUnit → sProp 𝕄) :
    iprop(routed m c ∗ (∃ a, pts c accM fullShare a) ∗ slotFlight m c 0 0 0 ∗ slotIdle m c 1 ∗ levAts L lv ∗ owing c O
        ∗ ((routed m c ∗ pts c accM fullShare (ACC m c 0) ∗ R ∗ slotIdle m c 1 ∗ owing c O) -∗ Kt ⟨⟩)) ⊢ run c (expert0 next) Kt := by
  unfold expert0 loadRank loadAll loadWeight loadAcc storeAcc routed
  simp only [Prog.lift, Prog.bind_op, Prog.bind_ret, Prog.pure_eq_ret]
  iintro ⟨⟨Hx, Hw, Hr⟩, ⟨%a, Ha⟩, H0, H1, #Hlev, HO, Hk⟩
  iapply (run_load c rkM fullShare)
  isplitl [Hr]; · iexact Hr
  iintro Hr
  iapply (run_load c xfM fullShare)
  isplitl [Hx]; · iexact Hx
  iintro Hx
  rw [read_all]
  iapply (four_spec m c 0 O hO next R hn)
  isplitl [H0]; · iexact H0
  isplitl [H1]; · iexact H1
  isplitr; · iexact Hlev
  isplitl [HO]; · iexact HO
  iintro ⟨HR, H1, HO⟩
  iapply (run_load c wlM fullShare)
  isplitl [Hw]; · iexact Hw
  iintro Hw
  iapply (run_load c accM fullShare)
  isplitl [Ha]; · iexact Ha
  iintro Ha
  iapply (run_store c accM)
  isplitl [Ha]; · iexact Ha
  iintro Ha
  rw [write_acc, run, wp_ret]; imodintro
  iapply Hk
  isplitl [Hx Hw Hr]
  · isplitl [Hx]; · iexact Hx
    isplitl [Hw] <;> iassumption
  isplitl [Ha]; · iexact Ha
  isplitl [HR]; · iexact HR
  isplitl [H1] <;> iassumption

/-- A later expert adds to it. -/
theorem expert_spec (c : Dev nD) (n : ℕ) (O : CellTallies nD τ sig Unit) (hO : Above 0 O) (next : KProg F PUnit) (R : sProp 𝕄)
    (hn : ∀ Kt : PUnit → sProp 𝕄, iprop(slotIdle m c 0 ∗ (R -∗ Kt ⟨⟩)) ⊢ run c next Kt) (Kt : PUnit → sProp 𝕄) :
    iprop((routed m c ∗ pts c accM fullShare (ACC m c n) ∗ slotFlight m c (Fin.ofNat 8 (n + 1)) 0 0 ∗ slotIdle m c 1 ∗ owing c O) ∗ levAts L lv
        ∗ ((routed m c ∗ pts c accM fullShare (ACC m c (n + 1)) ∗ R ∗ slotIdle m c 1 ∗ owing c O) -∗ Kt ⟨⟩))
      ⊢ run c (expert (Fin.ofNat 8 (n + 1)) next) Kt := by
  unfold expert loadRank loadAll loadWeight loadAcc storeAcc routed
  simp only [Prog.lift, Prog.bind_op, Prog.bind_ret, Prog.pure_eq_ret]
  iintro ⟨⟨⟨Hx, Hw, Hr⟩, Ha, H0, H1, HO⟩, #Hlev, Hk⟩
  iapply (run_load c rkM fullShare)
  isplitl [Hr]; · iexact Hr
  iintro Hr
  iapply (run_load c xfM fullShare)
  isplitl [Hx]; · iexact Hx
  iintro Hx
  rw [read_all]
  iapply (four_spec m c (Fin.ofNat 8 (n + 1)) O hO next R hn)
  isplitl [H0]; · iexact H0
  isplitl [H1]; · iexact H1
  isplitr; · iexact Hlev
  isplitl [HO]; · iexact HO
  iintro ⟨HR, H1, HO⟩
  iapply (run_load c wlM fullShare)
  isplitl [Hw]; · iexact Hw
  iintro Hw
  iapply (run_load c accM fullShare)
  isplitl [Ha]; · iexact Ha
  iintro Ha
  rw [read_acc]
  iapply (run_load c accM fullShare)
  isplitl [Ha]; · iexact Ha
  iintro Ha
  iapply (run_store c accM)
  isplitl [Ha]; · iexact Ha
  iintro Ha
  rw [write_acc, run, wp_ret]; imodintro
  iapply Hk
  isplitl [Hx Hw Hr]
  · isplitl [Hx]; · iexact Hx
    isplitl [Hw] <;> iassumption
  isplitl [Ha]; · iexact Ha
  isplitl [HR]; · iexact HR
  isplitl [H1] <;> iassumption

/-- All eight experts. -/
theorem experts_spec (c : Dev nD) (O : CellTallies nD τ sig Unit) (hO : Above 0 O) (Kt : PUnit → sProp 𝕄) :
    iprop(routed m c ∗ (∃ a, pts c accM fullShare a) ∗ slotFlight m c 0 0 0 ∗ slotIdle m c 1 ∗ levAts L lv ∗ owing c O
        ∗ ((routed m c ∗ pts c accM fullShare (ACC m c 7) ∗ slotIdle m c 0 ∗ slotIdle m c 1 ∗ owing c O) -∗ Kt ⟨⟩)) ⊢ run c experts Kt := by
  unfold experts
  simp only [run, wp_bind]
  iintro ⟨Hr, Ha, H0, H1, #Hlev, HO, Hk⟩
  iapply (expert0_spec m c O hO _ (slotFlight m c 1 0 0) (start_spec m c 1 0 0))
  isplitl [Hr]; · iexact Hr
  isplitl [Ha]; · iexact Ha
  isplitl [H0]; · iexact H0
  isplitl [H1]; · iexact H1
  isplitr; · iexact Hlev
  isplitl [HO]; · iexact HO
  iintro H
  iapply (expert_spec m c 0 O hO _ (slotFlight m c 2 0 0) (start_spec m c 2 0 0))
  isplitl [H]; · iexact H
  isplitr; · iexact Hlev
  iintro H
  iapply (expert_spec m c 1 O hO _ (slotFlight m c 3 0 0) (start_spec m c 3 0 0))
  isplitl [H]; · iexact H
  isplitr; · iexact Hlev
  iintro H
  iapply (expert_spec m c 2 O hO _ (slotFlight m c 4 0 0) (start_spec m c 4 0 0))
  isplitl [H]; · iexact H
  isplitr; · iexact Hlev
  iintro H
  iapply (expert_spec m c 3 O hO _ (slotFlight m c 5 0 0) (start_spec m c 5 0 0))
  isplitl [H]; · iexact H
  isplitr; · iexact Hlev
  iintro H
  iapply (expert_spec m c 4 O hO _ (slotFlight m c 6 0 0) (start_spec m c 6 0 0))
  isplitl [H]; · iexact H
  isplitr; · iexact Hlev
  iintro H
  iapply (expert_spec m c 5 O hO _ (slotFlight m c 7 0 0) (start_spec m c 7 0 0))
  isplitl [H]; · iexact H
  isplitr; · iexact Hlev
  iintro H
  iapply (expert_spec m c 6 O hO _ (slotIdle m c 0) (fun Kt => by
    simp only [Prog.pure_eq_ret, run, wp_ret]
    iintro ⟨H, Hk⟩
    imodintro
    iapply Hk
    iexact H))
  isplitl [H]; · iexact H
  isplitr; · iexact Hlev
  iexact Hk

end Cert.KernelIdeal.Moe

end

end
-- ==== Proof.Body.lean ====
module

public import proofs.«01_k».proof.Proof.Chunks

/-!
# The body on one device

The body at a symbolic device: the two exchanges before the experts, the experts, the exchange after them.
-/

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Halves of the buffers -/

/-- The rows of the accumulator the device keeps. -/
abbrev accKeep (c : Dev nD) : Memref sig .tc .vmem S1024x1024 .f32 := accM.slice (accOwn c) (fun _ => rfl)

theorem mem_xslice (off : Fin 2 → ℕ) (inb : ∀ a, off a + S1024x1024.size a ≤ S2048x1024.size a) (n : ℕ) (h : off = ![n, 0]) (i : S2048x1024.Idx) :
    i ∈ (Rect.unit (s := S2048x1024) off S1024x1024.size inb).set ↔ n ≤ (i (0 : Fin 2)).val ∧ (i (0 : Fin 2)).val < n + 1024 := by
  subst h
  rw [Rect.mem_set_unit]
  have h1 : (i (1 : Fin 2)).val < 1024 := (i (1 : Fin 2)).isLt
  constructor
  · intro h; exact h (0 : Fin 2)
  · rintro ⟨ha, hb⟩ a
    match a with
    | ⟨0, _⟩ => exact ⟨ha, hb⟩
    | ⟨1, _⟩ => exact ⟨Nat.zero_le _, by show (i (1 : Fin 2)).val < 0 + 1024; omega⟩

theorem mem_rslice (off : Fin 3 → ℕ) (inb : ∀ a, off a + S1x1024x8.size a ≤ S2x1024x8.size a) (n : ℕ) (h : off = ![n, 0, 0]) (i : S2x1024x8.Idx) :
    i ∈ (Rect.unit (s := S2x1024x8) off S1x1024x8.size inb).set ↔ (i (0 : Fin 3)).val = n := by
  subst h
  rw [Rect.mem_set_unit]
  have h1 : (i (1 : Fin 3)).val < 1024 := (i (1 : Fin 3)).isLt
  have h2 : (i (2 : Fin 3)).val < 8 := (i (2 : Fin 3)).isLt
  constructor
  · intro h
    have h0 : n ≤ (i (0 : Fin 3)).val ∧ (i (0 : Fin 3)).val < n + 1 := h (0 : Fin 3)
    omega
  · rintro h a
    match a with
    | ⟨0, _⟩ => exact ⟨h.symm.le, by show (i (0 : Fin 3)).val < n + 1; omega⟩
    | ⟨1, _⟩ => exact ⟨Nat.zero_le _, by show (i (1 : Fin 3)).val < 0 + 1024; omega⟩
    | ⟨2, _⟩ => exact ⟨Nat.zero_le _, by show (i (2 : Fin 3)).val < 0 + 8; omega⟩

theorem map_whole (b : Ref sig .tc) (S : Finset b.ty.Idx) : S.map (View.whole b).emb = S := Finset.map_refl
theorem xslice_set (off : Fin 2 → ℕ) (inb : ∀ a, off a + S1024x1024.size a ≤ S2048x1024.size a) :
    (xfM.view.slice (Rect.unit (s := S2048x1024) off S1024x1024.size inb)).set = (Rect.unit (s := S2048x1024) off S1024x1024.size inb).set :=
  (View.set_slice _ _).trans (map_whole cc0_scratch0 _)
theorem aslice_set (off : Fin 2 → ℕ) (inb : ∀ a, off a + S1024x1024.size a ≤ S2048x1024.size a) :
    (accM.view.slice (Rect.unit (s := S2048x1024) off S1024x1024.size inb)).set = (Rect.unit (s := S2048x1024) off S1024x1024.size inb).set :=
  (View.set_slice _ _).trans (map_whole cc0_scratch4 _)
theorem rslice_set (off : Fin 3 → ℕ) (inb : ∀ a, off a + S1x1024x8.size a ≤ S2x1024x8.size a) :
    (rhM.view.slice (Rect.unit (s := S2x1024x8) off S1x1024x8.size inb)).set = (Rect.unit (s := S2x1024x8) off S1x1024x8.size inb).set :=
  (View.set_slice _ _).trans (map_whole cc0_scratch1 _)
theorem xS_set (c : Dev nD) : (xS c).view.set = (Rect.unit (s := S2048x1024) (k0_off1 c) S1024x1024.size (k0_off1_inb c)).set := xslice_set _ _
theorem rS_set (c : Dev nD) : (rS c).view.set = (Rect.unit (s := S2x1024x8) (k0_off2 c) S1x1024x8.size (k0_off2_inb c)).set :=
  (View.set_reshape (rhM.view.slice _) _).trans (rslice_set _ _)

theorem x_rest (c : Dev nD) : xfM.view.set \ (xS (peer c)).view.set = (xS c).view.set := by
  rw [xS_set, xS_set]
  ext i
  have h0 : (i (0 : Fin 2)).val < 2048 := (i (0 : Fin 2)).isLt
  have hp := peer_mod c
  rw [Finset.mem_sdiff, show xfM.view.set = Finset.univ from View.set_whole _, mem_xslice _ _ _ (k0_off1_eq (peer c)), mem_xslice _ _ _ (k0_off1_eq c), hp]
  refine ⟨fun ⟨_, h⟩ => by omega, fun h => ⟨Finset.mem_univ _, by omega⟩⟩
theorem r_rest (c : Dev nD) : rhM.view.set \ (rS (peer c)).view.set = (rS c).view.set := by
  rw [rS_set, rS_set]
  ext i
  have h0 : (i (0 : Fin 3)).val < 2 := (i (0 : Fin 3)).isLt
  have hp := peer_mod c
  rw [Finset.mem_sdiff, show rhM.view.set = Finset.univ from View.set_whole _, mem_rslice _ _ _ (k0_off2_eq (peer c)), mem_rslice _ _ _ (k0_off2_eq c), hp]
  refine ⟨fun ⟨_, h⟩ => by omega, fun h => ⟨Finset.mem_univ _, by omega⟩⟩
theorem acc_rest (c : Dev nD) : accM.view.set \ (accOut c).view.set = (accKeep c).view.set := by
  rw [show (accOut c).view.set = _ from aslice_set _ _, show (accKeep c).view.set = _ from aslice_set _ _]
  ext i
  have h0 : (i (0 : Fin 2)).val < 2048 := (i (0 : Fin 2)).isLt
  rw [Finset.mem_sdiff, show accM.view.set = Finset.univ from View.set_whole _, mem_xslice _ _ _ (k0_off4_eq c), mem_xslice _ _ _ (k0_off3_eq c)]
  refine ⟨fun ⟨_, h⟩ => by omega, fun h => ⟨Finset.mem_univ _, by omega⟩⟩

theorem split_x (c : Dev nD) (q : PosShare TreeShare) (f : xfM.view.ty.Contents (Elt F)) :
    (pts c xfM q f : sProp 𝕄) ⊣⊢ iprop(pts c (xS (peer c)) q f ∗ pts c (xS c) q f) := by
  have h : (pts c (xS c) q f : sProp 𝕄) = (xfM.view.loc (c : Thread nD τ) ↦[xfM.view.set \ (xS (peer c)).view.set]{q} f) := by rw [x_rest]; rfl
  rw [h]
  exact pointsTo_split_subset (show (xS (peer c)).view.set ⊆ xfM.view.set by rw [show xfM.view.set = Finset.univ from View.set_whole _]; exact Finset.subset_univ _)
theorem split_r (c : Dev nD) (q : PosShare TreeShare) (f : rhM.view.ty.Contents (Elt F)) :
    (pts c rhM q f : sProp 𝕄) ⊣⊢ iprop(pts c (rS (peer c)) q f ∗ pts c (rS c) q f) := by
  have h : (pts c (rS c) q f : sProp 𝕄) = (rhM.view.loc (c : Thread nD τ) ↦[rhM.view.set \ (rS (peer c)).view.set]{q} f) := by rw [r_rest]; rfl
  rw [h]
  exact pointsTo_split_subset (show (rS (peer c)).view.set ⊆ rhM.view.set by rw [show rhM.view.set = Finset.univ from View.set_whole _]; exact Finset.subset_univ _)
theorem split_acc (c : Dev nD) (q : PosShare TreeShare) (f : accM.view.ty.Contents (Elt F)) :
    (pts c accM q f : sProp 𝕄) ⊣⊢ iprop(pts c (accOut c) q f ∗ pts c (accKeep c) q f) := by
  have h : (pts c (accKeep c) q f : sProp 𝕄) = (accM.view.loc (c : Thread nD τ) ↦[accM.view.set \ (accOut c).view.set]{q} f) := by rw [acc_rest]; rfl
  rw [h]
  exact pointsTo_split_subset (show (accOut c).view.set ⊆ accM.view.set by rw [show accM.view.set = Finset.univ from View.set_whole _]; exact Finset.subset_univ _)

/-- A memref in two halves. -/
theorem halves {sp : Space} {s : Shape} {e : EltTy} (c : Dev nD) (M : Memref sig .tc sp s e) (f : M.view.ty.Contents (Elt F)) :
    (pts c M fullShare f : sProp 𝕄) ⊣⊢ iprop(pts c M fullShare.left f ∗ pts c M fullShare.right f) :=
  pointsTo_share (PosShare.mem_left_op_right fullShare)

/-! ## Sending and waiting -/

theorem credit_x (M : Memref sig .tc .vmem S1024x1024 .f32) : M.view.dmaCredit = Nx := rfl
theorem credit_r (M : Memref sig .tc .vmem S1024x8 .f32) : M.view.dmaCredit = Nr := rfl

/-- Sending to the peer: duty of the send cell `kS` with the source, duty of the peer's receive cell `kV` with what lands. -/
theorem send_spec {s : Shape} {e : EltTy} (K : Dev nD × Fin 7 → ℕ) (c n : Dev nD) (hn : n = peer c)
    {src dst : Memref sig .tc .vmem s e} {sS sV : DmaSem sig} (kS kV : Fin 7) (hS : csem kS = .dma sS) (hV : csem kV = .dma sV)
    {hsc : (dst : Memref sig (Dev.tc n : Thread nD τ).2.kind .vmem s e).view.ref.isScScratch = false}
    {hsrc : src.view.WordExact} {hdst : dst.view.WordExact}
    {hsem : DmaTarget.Typed .vmem (.dma sV) (.remote (Dev.tc n : Thread nD τ) (dst : Memref sig (Dev.tc n : Thread nD τ).2.kind .vmem s e) (.dma sS) hsc)}
    {α : Type} {Q : α → sProp 𝕄} {k : PUnit → KProg F α} (q : PosShare TreeShare) (fs : src.view.ty.Contents (Elt F))
    (N : ℕ) (hN : dst.view.dmaCredit = N) (haS : amt kS = N) (haV : amt kV = N)
    (O₀ O : CellTallies nD τ sig Unit) (hO : O₀ = O + tallyAt (kcell (peer c, kV)) () N)
    (hpS : (pts c src q fs : sProp 𝕄) ⊢ pay m c kS)
    (hpV : ∀ fd, (pts (peer c) dst fullShare (dst.view.write (Elt F) fd (src.view.read (Elt F) fs) Finset.univ) : sProp 𝕄) ⊢ pay m (peer c) kV) :
    iprop((cellInv ER (Rd m) (K (c, kS)) (kcell (c, kS)) ∗ cellInv ER (Rd m) (K (peer c, kV)) (kcell (peer c, kV))
        ∗ reached ER (kcell (c, kS)) 0 ∗ reached ER (kcell (peer c, kV)) 0)
        ∗ pts c src q fs ∗ (∃ fd, pts (peer c) dst fullShare fd) ∗ owing c O₀
        ∗ dutyTok ER (kcell (c, kS)) 0 () ∗ dutyTok ER (kcell (peer c, kV)) 0 ()
        ∗ ((cred (tallyAt (kcell (c, kS)) () N) ∗ owing c O) -∗ run c (k ⟨⟩) Q))
      ⊢ run c (.op (.enqueueDma src (.remote (Dev.tc n : Thread nD τ) dst (.dma sS) hsc) (.dma sV) hsrc hdst hsem) k) Q := by
  subst hn
  have hgS : kcell (c, kS) = ((c : Thread nD τ), SemLoc.dma sS) := Prod.ext rfl hS
  have hgV : kcell (peer c, kV) = ((peer c : Thread nD τ), SemLoc.dma sV) := Prod.ext rfl hV
  have h1 := Rd_mem (F := F) m c kS
  have h2 := Rd_mem (F := F) m (peer c) kV
  have h3 := Rd_amount (F := F) m c kS ()
  have h4 := Rd_amount (F := F) m (peer c) kV ()
  have h5 := Rd_payload (F := F) m c kS ()
  have h6 := Rd_payload (F := F) m (peer c) kV ()
  rw [hgS] at h1 h3 h5
  rw [hgV] at h2 h4 h6
  rw [hgS, hgV]
  rw [hgV] at hO
  unfold owing pts
  iintro ⟨⟨#HIS, #HIV, #HrS, #HrV⟩, Hsrc, ⟨%fd, Hdst⟩, ⟨%W, HO⟩, HtS, HtV, Hk⟩
  iapply (Rounds.wp_send_pointsTo 𝒱₀ ER (Rd m) (c : Thread nD τ) none (κ₁ := K (c, kS)) (κ₂ := K (peer c, kV))
    (r₁ := 0) (r₂ := 0) (d₁ := ()) (d₂ := ()) (src := src) (dst := dst) (sS := .dma sS) (sem := .dma sV) (hsc := hsc)
    (fd := fd) (fs := fs) (q := q) (W := W) (c' := (peer c : Thread nD τ))
    h1 h2 () () N hN (h3.trans haS) (h4.trans haV) O hO (hpS.trans (Entails.of_eq h5.symm)) ((hpV fd).trans (Entails.of_eq h6.symm)))
    $$ [Hsrc Hdst HO HtS HtV]
  · isplitr; · iexact HIS
    isplitr; · iexact HIV
    isplitl [Hsrc]; · iexact Hsrc
    isplitl [Hdst]; · iexact Hdst
    isplitl [HO]; · iexact HO
    isplitl [HtS]; · iexact HtS
    isplitr; · iexact HrS
    isplitl [HtV]; · iexact HtV
    iexact HrV
  iintro ⟨Hc, HO⟩
  iapply Hk
  isplitl [Hc]; · iexact Hc
  iexists W; iexact HO

/-- Waiting on a transfer's cell: its payload arrives and the cell, closed, is back at zero. -/
theorem wait_spec {s s' : Shape} {e e' : EltTy} {sp sp' : Space} (K : Dev nD × Fin 7 → ℕ) (c : Dev nD) (j : Fin 7) {sem : DmaSem sig} (hs : csem j = .dma sem)
    {srcw : Memref sig .tc sp s e} {dstw : Memref sig .tc sp' s' e'} {hsrc : srcw.view.WordExact} {hdst : dstw.view.WordExact}
    (hN : dstw.view.dmaCredit = amt j) (n : ℕ) (hn : lvK j ≤ n) (O : CellTallies nD τ sig Unit) (hO : Above n O)
    {α : Type} {Q : α → sProp 𝕄} {k : PUnit → KProg F α} :
    iprop(cellInv ER (Rd m) (K (c, j)) (kcell (c, j)) ∗ levAts L lv ∗ cred (tallyAt (kcell (c, j)) () (amt j)) ∗ owing c O ∗ atPos ER (kcell (c, j)) 0 ∅ 0
        ∗ ((pay m c j ∗ owing c O ∗ semVal (kcell (c, j)) 0) -∗ run c (k ⟨⟩) Q))
      ⊢ run c (.op (.waitDma2 sem srcw dstw hsrc hdst) k) Q := by
  have hg : kcell (c, j) = ((c : Thread nD τ), SemLoc.dma sem) := Prod.ext rfl hs
  have h1 := Rd_expect (F := F) m c j
  have h2 := Rd_rest (F := F) m c j
  have h3 := lv_kcell c j ()
  rw [hg] at h1 h2 h3 ⊢
  unfold owing
  iintro ⟨#HI, #Hlev, Hcr, ⟨%W, HO⟩, Hat, Hk⟩
  iapply (Rounds.wp_wait_rest_token 𝒱₀ ER (Rd m) (c : Thread nD τ) none (κ := K (c, j))
      (wpE_waitDma2_eq 𝒱₀ (c : Thread nD τ) none Set.univ) (Set.mem_univ _) () (O := O) (W := W) (R := 0) (m := 0) (T := ∅)
      (by rw [Nat.zero_add, h1]; exact hN)) $$ [Hcr HO Hat]
  · isplitr; · iexact HI
    isplitl [Hcr]; · rw [hN]; iexact Hcr
    isplitl [HO]; · iexact HO
    isplitr
    · iapply (mayWait c _ n (h3.le.trans hn) O hO); iexact Hlev
    iexact Hat
  iintro ⟨HO, Hat, -, Hpay⟩
  ihave Hp := (Entails.of_eq h2) $$ Hpay
  imod (Rounds.cell_close ER (Rd m) (Set.mem_univ (K (c, j))) (fun h => h) (R := 0 + 1) (Rd_duties_later m _)) $$ [Hat] with Hz
  · isplitr; · iexact HI
    iexact Hat
  iapply Hk
  isplitl [Hp]; · iexact Hp
  isplitl [HO]; · iexists _; iexact HO
  iexact Hz

/-! ## Loads and stores inside one half of a buffer -/

theorem half_load {α : Type} {sp : CoreSpace} {s : Shape} {e : EltTy} (c : Dev nD) (M : Memref sig .tc sp s e) (S : Finset M.view.ty.Idx)
    (f : M.view.ty.Contents (Elt F)) (r : Rect s) (hS : S = (M.view.slice r).set) (hl : M.view.LoadsAt r.toLoadRect)
    (k : (r.toLoadRect.shape.Idx → Elt F e) → KProg F α) (Q : α → sProp 𝕄) :
    iprop((M.view.loc (c : Thread nD τ) ↦[S]{fullShare} f) ∗ ((M.view.loc (c : Thread nD τ) ↦[S]{fullShare} f) -∗ run c (k (M.view.readAt (Elt F) r.toLoadRect f)) Q))
      ⊢ run c (.op (.load M r.toLoadRect hl) k) Q := by
  iintro ⟨H, Hk⟩
  iapply (wp_load_rect 𝒱₀ (c : Thread nD τ) none Set.univ (m := M) (r := r) (S := S) (by rw [hS])) $$ H
  iexact Hk

theorem half_store {α : Type} {sp : CoreSpace} {s : Shape} {e : EltTy} (c : Dev nD) (M : Memref sig .tc sp s e) (S : Finset M.view.ty.Idx)
    (f C : M.view.ty.Contents (Elt F)) (r : Rect s) (hS : S = (M.view.slice r).set) (w : r.shape.Idx → Elt F e)
    (hC : (M.view.slice r).read (Elt F) C = w) (hx : (M.access r).Stores Finset.univ) (hm) (k : PUnit → KProg F α) (Q : α → sProp 𝕄) :
    iprop((M.view.loc (c : Thread nD τ) ↦[S]{fullShare} f) ∗ ((M.view.loc (c : Thread nD τ) ↦[S]{fullShare} C) -∗ run c (k ⟨⟩) Q))
      ⊢ run c (.op (.store M r w Finset.univ hx hm) k) Q := by
  iintro ⟨H, Hk⟩
  iapply (wp_store 𝒱₀ (c : Thread nD τ) none Set.univ (m := M) (r := r) (Mk := Finset.univ) (S := S)
    (by rw [hS]; exact subset_rfl)) $$ H
  iintro H
  iapply Hk
  ihave H := (Entails.of_eq (pointsTo_congr (ℓ := M.view.loc (c : Thread nD τ)) (q := fullShare) (I := S) (f := (M.access r).write (Elt F) f w Finset.univ) (g := C)
    (fun i hi => write_eq_on (M.view.slice r) f C w hC i (hS ▸ hi)))) $$ H
  iexact H

/-! ## What lands -/

theorem read_xM (f : Vec F S1024x1024 .f32) : xM.view.read (Elt F) f = f := rfl
theorem read_rM (f : Vec F S1024x8 .f32) : rM.view.read (Elt F) f = f := rfl

theorem landed_x (c : Dev nD) (fd : xfM.view.ty.Contents (Elt F)) :
    (pts (peer c) (xS c) fullShare ((xS c).view.write (Elt F) fd (xM.view.read (Elt F) (xin m c)) Finset.univ) : sProp 𝕄) ⊢ pay m (peer c) 2 := by
  show _ ⊢ pts (peer c) (xS (peer (peer c))) fullShare (XF m (peer c))
  rw [peer_peer]
  exact Entails.of_eq (pointsTo_congr (write_eq_on (xS c).view fd (XF m (peer c)) _
    ((read_XF m (peer c) c (lo_peer c).symm (hi_peer c).symm _ (k0_off1_eq c) _).trans (read_xM (xin m c)).symm)))
theorem landed_r (c : Dev nD) (fd : rhM.view.ty.Contents (Elt F)) :
    (pts (peer c) (rS c) fullShare ((rS c).view.write (Elt F) fd (rM.view.read (Elt F) (rin m c)) Finset.univ) : sProp 𝕄) ⊢ pay m (peer c) 4 := by
  show _ ⊢ pts (peer c) (rS (peer (peer c))) fullShare (RH m (peer c))
  rw [peer_peer]
  exact Entails.of_eq (pointsTo_congr (write_eq_on (rS c).view fd (RH m (peer c)) _
    ((read_RH_squeezed m (peer c) c (lo_peer c).symm (hi_peer c).symm _ (k0_off2_eq c) _).trans (read_rM (rin m c)).symm)))
theorem landed_out (c : Dev nD) (fd : outM.view.ty.Contents (Elt F)) :
    (pts (peer c) outM fullShare (outM.view.write (Elt F) fd ((accOut c).view.read (Elt F) (ACC m c 7)) Finset.univ) : sProp 𝕄) ⊢ pay m (peer c) 6 := by
  show _ ⊢ pts (peer c) outM fullShare (arrived m (peer c))
  refine Entails.of_eq (pointsTo_congr (write_eq_on outM.view fd (arrived m (peer c)) _ ?_))
  unfold arrived
  rw [peer_peer, View.read_whole]

theorem pay1 (c : Dev nD) : pay m c 1 = pts c xM fullShare.left (xin m c) := rfl
theorem pay2 (c : Dev nD) : pay m c 2 = pts c (xS (peer c)) fullShare (XF m c) := rfl
theorem pay3 (c : Dev nD) : pay m c 3 = pts c rM fullShare.left (rin m c) := rfl
theorem pay4 (c : Dev nD) : pay m c 4 = pts c (rS (peer c)) fullShare (RH m c) := rfl
theorem pay5 (c : Dev nD) : pay m c 5 = pts c (accOut c) fullShare (ACC m c 7) := rfl
theorem pay6 (c : Dev nD) : pay m c 6 = pts c outM fullShare (arrived m c) := rfl

/-! ## The parts of the body -/

/-- Every cell of the protocol, at the names it was allocated at, and that its only round is reached. -/
def records (K : Dev nD × Fin 7 → ℕ) : sProp 𝕄 :=
  iprop((bigSep Finset.univ fun ck : Dev nD × Fin 7 => cellInv ER (Rd m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) : records m K ⊢ cellInv ER (Rd m) (K ck) (kcell ck) := by
  unfold records
  exact sep_elim_left.trans (bigSep_elim (Finset.mem_univ ck))
theorem reached_at (K : Dev nD × Fin 7 → ℕ) (ck : Dev nD × Fin 7) : records m K ⊢ reached ER (kcell ck) 0 := by
  unfold records
  exact sep_elim_right.trans (bigSep_elim (Finset.mem_univ ck))

set_option maxHeartbeats 800000 in
/-- The barrier and both transfers. -/
theorem gather1_spec (K : Dev nD × Fin 7 → ℕ) (c : Dev nD) (Kt : PUnit → sProp 𝕄) :
    iprop(records m K ∗ levAts L lv
        ∗ (dutyTok ER (kcell (peer c, 0)) 0 () ∗ dutyTok ER (kcell (c, 1)) 0 () ∗ dutyTok ER (kcell (peer c, 2)) 0 ()
          ∗ dutyTok ER (kcell (c, 3)) 0 () ∗ dutyTok ER (kcell (peer c, 4)) 0 ())
        ∗ (∃ f, pts c (xS (peer c)) fullShare f) ∗ (∃ f, pts c (rS (peer c)) fullShare f) ∗ (∃ f, pts c outM fullShare f)
        ∗ cred (tallyAt (kcell (c, 0)) () 1) ∗ atPos ER (kcell (c, 0)) 0 ∅ 0
        ∗ pts c xM fullShare.left (xin m c) ∗ pts c rM fullShare.left (rin m c) ∗ owing c (O₀ c)
        ∗ ((cred (tallyAt (kcell (c, 1)) () Nx) ∗ cred (tallyAt (kcell (c, 3)) () Nr) ∗ (∃ f, pts (peer c) outM fullShare f)
            ∗ semVal (kcell (c, 0)) 0 ∗ owing c (O₁ c)) -∗ Kt ⟨⟩)) ⊢ run c (gather1 c) Kt := by
  unfold gather1
  simp only [semSignalWord, semWaitWord, Prog.lift, Prog.bind_op, Prog.bind_ret, Prog.pure_eq_ret]
  iintro ⟨#HR, #Hlev, ⟨Ht0, Ht1, Ht2, Ht3, Ht4⟩, Hx, Hr, Hout, Hc0, Hat, Hxs, Hrs, HO, Hk⟩
  unfold owing
  icases HO with ⟨%W, HO⟩
  simp only [dev1_eq c]
  iapply (Rounds.wp_signal 𝒱₀ ER (Rd m) (c : Thread nD τ) none (dst := (peer c : Thread nD τ)) (κ := K (peer c, 0))
      (d := ()) (Rd_mem m (peer c) 0) ((Rd_amount m (peer c) 0 ()).trans (by decide)) () (O₃ c) rfl)
    $$ [HO Ht0 Hx Hr Hout]
  · isplitr; · iapply (inv_at m K (peer c, 0)); iexact HR
    isplitl [HO]; · iexact HO
    isplitl [Ht0]; · iexact Ht0
    isplitl [Hx Hr Hout]
    · iapply (Entails.of_eq (Rd_payload m (peer c) 0 ()).symm)
      iapply (show iprop((∃ f, pts (peer (peer c)) (xS (peer c)) fullShare f) ∗ (∃ f, pts (peer (peer c)) (rS (peer c)) fullShare f)
        ∗ (∃ f, pts (peer (peer c)) outM fullShare f)) ⊢ pay m (peer c) 0 from BI.Entails.refl _)
      rw [peer_peer]
      isplitl [Hx]; · iexact Hx
      isplitl [Hr] <;> iassumption
    iapply (reached_at m K (peer c, 0)); iexact HR
  iintro HO
  iapply (Rounds.wp_wait_rest_token 𝒱₀ ER (Rd m) (c : Thread nD τ) none (κ := K (c, 0))
      (wpE_semWait_eq 𝒱₀ (c : Thread nD τ) none Set.univ) (Set.mem_univ _) () (O := O₃ c) (W := W) (R := 0) (m := 0) (T := ∅)
      (by rw [Nat.zero_add, Rd_expect m c 0]; decide)) $$ [Hc0 HO Hat]
  · isplitr; · iapply (inv_at m K (c, 0)); iexact HR
    isplitl [Hc0]; · iexact Hc0
    isplitl [HO]; · iexact HO
    isplitr; · iapply (mayWait c _ 1 ((lv_kcell c 0 ()).le.trans (by decide)) (O₃ c) (above_O₃ c 1 (by decide))); iexact Hlev
    iexact Hat
  iintro ⟨HO, Hat, -, Hpay⟩
  ihave Hp := (Entails.of_eq (Rd_rest m c 0)) $$ Hpay
  ihave Hp := (show pay m c 0 ⊢ iprop((∃ f, pts (peer c) (xS c) fullShare f) ∗ (∃ f, pts (peer c) (rS c) fullShare f) ∗ (∃ f, pts (peer c) outM fullShare f)) from BI.Entails.refl _) $$ Hp
  icases Hp with ⟨Hx, Hr, Hout⟩
  imod (Rounds.cell_close ER (Rd m) (Set.mem_univ (K (c, 0))) (fun h => h) (R := 0 + 1) (Rd_duties_later m (kcell (c, 0)))) $$ [Hat] with Hz
  · isplitr; · iapply (inv_at m K (c, 0)); iexact HR
    iexact Hat
  iapply (send_spec m K c _ (dev2_eq c) (src := xM) (dst := xS c) 1 2 rfl rfl fullShare.left (xin m c) Nx (credit_x _) rfl rfl (O₃ c) (O₂ c) rfl (Entails.of_eq (pay1 m c).symm) (landed_x m c))
  isplitr
  · isplitr; · iapply (inv_at m K (c, 1)); iexact HR
    isplitr; · iapply (inv_at m K (peer c, 2)); iexact HR
    isplitr; · iapply (reached_at m K (c, 1)); iexact HR
    iapply (reached_at m K (peer c, 2)); iexact HR
  isplitl [Hxs]; · iexact Hxs
  isplitl [Hx]; · iexact Hx
  isplitl [HO]; · unfold owing; iexists _; iexact HO
  isplitl [Ht1]; · iexact Ht1
  isplitl [Ht2]; · iexact Ht2
  iintro ⟨Hc1, HO⟩
  iapply (send_spec m K c _ (dev3_eq c) (src := rM) (dst := rS c) 3 4 rfl rfl fullShare.left (rin m c) Nr (credit_r _) rfl rfl (O₂ c) (O₁ c) rfl (Entails.of_eq (pay3 m c).symm) (landed_r m c))
  isplitr
  · isplitr; · iapply (inv_at m K (c, 3)); iexact HR
    isplitr; · iapply (inv_at m K (peer c, 4)); iexact HR
    isplitr; · iapply (reached_at m K (c, 3)); iexact HR
    iapply (reached_at m K (peer c, 4)); iexact HR
  isplitl [Hrs]; · iexact Hrs
  isplitl [Hr]; · iexact Hr
  isplitl [HO]; · iexact HO
  isplitl [Ht3]; · iexact Ht3
  isplitl [Ht4]; · iexact Ht4
  iintro ⟨Hc3, HO⟩
  rw [run, wp_ret]; imodintro
  iapply Hk
  isplitl [Hc1]; · iexact Hc1
  isplitl [Hc3]; · iexact Hc3
  isplitl [Hout]; · iexact Hout
  isplitl [Hz]; · iexact Hz
  unfold owing; iexact HO

/-- The device's place on the last axis, as the branches test it. -/
theorem cond0 : ∀ c : Dev nD, (Scalar.cmpi .ne (Scalar.extui (Scalar.cmpi .eq (myZ c) 0#32) : BitVec 32) 0#32 = 1#1) ↔ c.val % 2 = 0 := by decide
theorem cond1 : ∀ c : Dev nD, (Scalar.cmpi .ne (Scalar.extui (Scalar.cmpi .eq (myZ c) 1#32) : BitVec 32) 0#32 = 1#1) ↔ c.val % 2 = 1 := by decide

theorem read_xin (f : Vec F S1024x1024 .f32) :
    xM.view.readAt (Elt F) (Rect.unit (s := S1024x1024) ![0, 0] S1024x1024.size inb_S1024x1024_S1024x1024_0_0).toLoadRect f = f :=
  Memref.readAt_unit_zero (Elt F) cc0_stg0_0 hz _ f
theorem read_rin (f : Vec F S1024x8 .f32) :
    rM.view.readAt (Elt F) (Rect.unit (s := S1024x8) ![0, 0] S1024x8.size inb_S1024x8_S1024x8_0_0).toLoadRect f = f :=
  Memref.readAt_unit_zero (Elt F) cc0_stg1_0 hz _ f

/-- The router half a device stores itself. -/
theorem rS_own (c : Dev nD) (n : ℕ) (h : c.val % 2 = n) (inb : ∀ a, (![n, 0, 0] : Fin 3 → ℕ) a + S1x1024x8.size a ≤ S2x1024x8.size a) :
    (rS c).view.set = (rhM.view.slice (Rect.unit (s := S2x1024x8) ![n, 0, 0] S1x1024x8.size inb)).set := by
  rw [rS_set, rslice_set]
  ext i
  rw [mem_rslice _ _ _ (k0_off2_eq c), mem_rslice _ _ _ rfl, h]
theorem xS_own (c : Dev nD) : (xS c).view.set = (xfM.view.slice (Rect.unit (s := S2048x1024) (k0_off3 c) S1024x1024.size (k0_off3_inb c))).set := by
  rw [xS_set, xslice_set]
  ext i
  rw [mem_xslice _ _ _ (k0_off1_eq c), mem_xslice _ _ _ (k0_off3_eq c)]

/-- The device's own halves, stored. -/
theorem gather2_spec (c : Dev nD) (Kt : PUnit → sProp 𝕄) :
    iprop(pts c xM fullShare.right (xin m c) ∗ pts c rM fullShare.right (rin m c) ∗ (∃ f, pts c (xS c) fullShare f) ∗ (∃ f, pts c (rS c) fullShare f)
        ∗ ((pts c xM fullShare.right (xin m c) ∗ pts c rM fullShare.right (rin m c) ∗ pts c (xS c) fullShare (XF m c) ∗ pts c (rS c) fullShare (RH m c)) -∗ Kt ⟨⟩))
      ⊢ run c (gather2 c) Kt := by
  unfold gather2
  simp only [Prog.lift, Prog.bind_op, Prog.bind_ret, Prog.pure_eq_ret]
  iintro ⟨Hxm, Hrm, ⟨%fx, Hx⟩, ⟨%fr, Hr⟩, Hk⟩
  iapply (run_load c xM fullShare.right)
  isplitl [Hxm]; · iexact Hxm
  iintro Hxm
  rw [read_xin]
  iapply (half_load c xfM (xS c).view.set fx _ (xS_own c))
  isplitl [Hx]; · unfold pts; iexact Hx
  iintro Hx
  iapply (half_store c xfM (xS c).view.set fx (XF m c) _ (xS_own c) _
    ((read_XF m c c rfl rfl _ (k0_off3_eq c) _).trans (pay2_eq (xin m c)).symm))
  isplitl [Hx]; · iexact Hx
  iintro Hx
  unfold ownHalf0 ownHalf1
  rcases Nat.mod_two_eq_zero_or_one c.val with h | h
  · rw [if_pos ((cond0 c).mpr h), if_neg (fun h' => by have := (cond1 c).mp h'; omega)]
    simp only [Prog.lift, Prog.bind_op, Prog.bind_ret, Prog.pure_eq_ret]
    iapply (run_load c rM fullShare.right)
    isplitl [Hrm]; · iexact Hrm
    iintro Hrm
    rw [read_rin]
    iapply (half_load c rhM (rS c).view.set fr _ (rS_own c 0 h _))
    isplitl [Hr]; · unfold pts; iexact Hr
    iintro Hr
    iapply (half_store c rhM (rS c).view.set fr (RH m c) _ (rS_own c 0 h _) _
      ((read_RH m c c rfl rfl _ (by rw [h]) _).trans (pay3_eq (rin m c)).symm))
    isplitl [Hr]; · iexact Hr
    iintro Hr
    rw [run, wp_ret]; imodintro
    iapply Hk
    unfold pts
    isplitl [Hxm]; · iexact Hxm
    isplitl [Hrm]; · iexact Hrm
    isplitl [Hx] <;> iassumption
  · rw [if_neg (fun h' => by have := (cond0 c).mp h'; omega), if_pos ((cond1 c).mpr h)]
    simp only [Prog.lift, Prog.bind_op, Prog.bind_ret, Prog.pure_eq_ret]
    iapply (run_load c rM fullShare.right)
    isplitl [Hrm]; · iexact Hrm
    iintro Hrm
    rw [read_rin]
    iapply (half_load c rhM (rS c).view.set fr _ (rS_own c 1 h _))
    isplitl [Hr]; · unfold pts; iexact Hr
    iintro Hr
    iapply (half_store c rhM (rS c).view.set fr (RH m c) _ (rS_own c 1 h _) _
      ((read_RH m c c rfl rfl _ (by rw [h]) _).trans (pay4_eq (rin m c)).symm))
    isplitl [Hr]; · iexact Hr
    iintro Hr
    rw [run, wp_ret]; imodintro
    iapply Hk
    unfold pts
    isplitl [Hxm]; · iexact Hxm
    isplitl [Hrm]; · iexact Hrm
    isplitl [Hx] <;> iassumption

set_option maxHeartbeats 800000 in
/-- The four waits of the routing exchange; then all tokens and both halves of the router are there, with the staged blocks back whole. -/
theorem gather3_spec (K : Dev nD × Fin 7 → ℕ) (c : Dev nD) (k : Vec F S1x1024x8 .f32 → Vec F S1x1024x8 .f32 → Vec F S2048x1024 .f32 → KProg F PUnit)
    (Kt : PUnit → sProp 𝕄) :
    iprop(records m K ∗ levAts L lv
        ∗ (cred (tallyAt (kcell (c, 1)) () Nx) ∗ cred (tallyAt (kcell (c, 2)) () Nx) ∗ cred (tallyAt (kcell (c, 3)) () Nr) ∗ cred (tallyAt (kcell (c, 4)) () Nr))
        ∗ (atPos ER (kcell (c, 1)) 0 ∅ 0 ∗ atPos ER (kcell (c, 2)) 0 ∅ 0 ∗ atPos ER (kcell (c, 3)) 0 ∅ 0 ∗ atPos ER (kcell (c, 4)) 0 ∅ 0)
        ∗ owing c (O₁ c)
        ∗ pts c xM fullShare.right (xin m c) ∗ pts c rM fullShare.right (rin m c) ∗ pts c (xS c) fullShare (XF m c) ∗ pts c (rS c) fullShare (RH m c)
        ∗ ((pts c xM fullShare (xin m c) ∗ pts c rM fullShare (rin m c) ∗ pts c xfM fullShare (XF m c) ∗ pts c rhM fullShare (RH m c) ∗ owing c (O₁ c)
            ∗ semVal (kcell (c, 1)) 0 ∗ semVal (kcell (c, 2)) 0 ∗ semVal (kcell (c, 3)) 0 ∗ semVal (kcell (c, 4)) 0)
          -∗ run c (k (rhalf m c 0) (rhalf m c 1) (XF m c)) Kt)) ⊢ run c (gather3 c k) Kt := by
  unfold gather3 loadAll
  simp only [Prog.lift, Prog.bind_op, Prog.bind_ret, Prog.pure_eq_ret]
  iintro ⟨#HR, #Hlev, ⟨Hc1, Hc2, Hc3, Hc4⟩, ⟨Ha1, Ha2, Ha3, Ha4⟩, HO, Hxm, Hrm, Hx, Hr, Hk⟩
  iapply (wait_spec m K c 3 rfl (credit_r _) 2 (by decide) (O₁ c) (above_O₁ c 2 (by decide)))
  isplitr; · iapply (inv_at m K (c, 3)); iexact HR
  isplitr; · iexact Hlev
  isplitl [Hc3]; · iexact Hc3
  isplitl [HO]; · iexact HO
  isplitl [Ha3]; · iexact Ha3
  iintro ⟨Hrl, HO, Hz3⟩
  iapply (wait_spec m K c 4 rfl (credit_r _) 2 (by decide) (O₁ c) (above_O₁ c 2 (by decide)))
  isplitr; · iapply (inv_at m K (c, 4)); iexact HR
  isplitr; · iexact Hlev
  isplitl [Hc4]; · iexact Hc4
  isplitl [HO]; · iexact HO
  isplitl [Ha4]; · iexact Ha4
  iintro ⟨Hro, HO, Hz4⟩
  iapply (wait_spec m K c 1 rfl (credit_x _) 2 (by decide) (O₁ c) (above_O₁ c 2 (by decide)))
  isplitr; · iapply (inv_at m K (c, 1)); iexact HR
  isplitr; · iexact Hlev
  isplitl [Hc1]; · iexact Hc1
  isplitl [HO]; · iexact HO
  isplitl [Ha1]; · iexact Ha1
  iintro ⟨Hxl, HO, Hz1⟩
  iapply (wait_spec m K c 2 rfl (credit_x _) 2 (by decide) (O₁ c) (above_O₁ c 2 (by decide)))
  isplitr; · iapply (inv_at m K (c, 2)); iexact HR
  isplitr; · iexact Hlev
  isplitl [Hc2]; · iexact Hc2
  isplitl [HO]; · iexact HO
  isplitl [Ha2]; · iexact Ha2
  iintro ⟨Hxo, HO, Hz2⟩
  ihave Hrm := (halves c rM (rin m c)).2 $$ [Hrl Hrm]
  · isplitl [Hrl]; · iapply (Entails.of_eq (pay3 m c)); iexact Hrl
    iexact Hrm
  ihave Hxm := (halves c xM (xin m c)).2 $$ [Hxl Hxm]
  · isplitl [Hxl]; · iapply (Entails.of_eq (pay1 m c)); iexact Hxl
    iexact Hxm
  ihave Hx := (split_x c fullShare (XF m c)).2 $$ [Hxo Hx]
  · isplitl [Hxo]; · iapply (Entails.of_eq (pay2 m c)); iexact Hxo
    iexact Hx
  ihave Hr := (split_r c fullShare (RH m c)).2 $$ [Hro Hr]
  · isplitl [Hro]; · iapply (Entails.of_eq (pay4 m c)); iexact Hro
    iexact Hr
  iapply (run_load c rhM fullShare)
  isplitl [Hr]; · iexact Hr
  iintro Hr
  iapply (run_load c rhM fullShare)
  isplitl [Hr]; · iexact Hr
  iintro Hr
  iapply (run_load c xfM fullShare)
  isplitl [Hx]; · iexact Hx
  iintro Hx
  rw [read_all]
  iapply Hk
  isplitl [Hxm]; · iexact Hxm
  isplitl [Hrm]; · iexact Hrm
  isplitl [Hx]; · iexact Hx
  isplitl [Hr]; · iexact Hr
  isplitl [HO]; · iexact HO
  isplitl [Hz1]; · iexact Hz1
  isplitl [Hz2]; · iexact Hz2
  isplitl [Hz3] <;> iassumption

theorem write_out (f w : Vec F S1024x1024 .f32) :
    (outM.access (Rect.unit (s := S1024x1024) ![0, 0] S1024x1024.size inb_S1024x1024_S1024x1024_0_0) : View sig .tc _ _ _).write (Elt F) f w Finset.univ = w :=
  Memref.write_access_unit_zero_univ (Elt F) cc0_stg2_0 hz _ f w
theorem write_wl (f w : Vec F S2048x8 .f32) :
    (wlM.access (Rect.unit (s := S2048x8) ![0, 0] S2048x8.size inb_S2048x8_S2048x8_0_0) : View sig .tc _ _ _).write (Elt F) f w Finset.univ = w :=
  Memref.write_access_unit_zero_univ (Elt F) cc0_scratch2 hz _ f w
theorem write_rk (f w : Vec F S2048x8 .f32) :
    (rkM.access (Rect.unit (s := S2048x8) ![0, 0] S2048x8.size inb_S2048x8_S2048x8_0_0) : View sig .tc _ _ _).write (Elt F) f w Finset.univ = w :=
  Memref.write_access_unit_zero_univ (Elt F) cc0_scratch3 hz _ f w
theorem read_out (f : Vec F S1024x1024 .f32) :
    outM.view.readAt (Elt F) (Rect.unit (s := S1024x1024) ![0, 0] S1024x1024.size inb_S1024x1024_S1024x1024_0_0).toLoadRect f = f :=
  Memref.readAt_unit_zero (Elt F) cc0_stg2_0 hz _ f

/-- The weights and ranks, stored. -/
theorem routing_spec (c : Dev nD) (Kt : PUnit → sProp 𝕄) :
    iprop((∃ f, pts c wlM fullShare f) ∗ (∃ f, pts c rkM fullShare f)
        ∗ ((pts c wlM fullShare (WL m c) ∗ pts c rkM fullShare (RK m c)) -∗ Kt ⟨⟩))
      ⊢ run c (storeRouting (myZ c) (k0_pay6 (rhalf m c 0) (rhalf m c 1) (XF m c)) (k0_pay7 (rhalf m c 0) (rhalf m c 1) (XF m c))
        (k0_pay8 (rhalf m c 0) (rhalf m c 1) (XF m c)) (k0_pay9 (rhalf m c 0) (rhalf m c 1) (XF m c))) Kt := by
  unfold storeRouting
  simp only [Prog.lift, Prog.bind_op, Prog.bind_ret, Prog.pure_eq_ret]
  iintro ⟨⟨%fw, Hw⟩, ⟨%fr, Hr⟩, Hk⟩
  iapply (run_load c wlM fullShare)
  isplitl [Hw]; · iexact Hw
  iintro Hw
  iapply (run_store c wlM)
  isplitl [Hw]; · iexact Hw
  iintro Hw
  iapply (run_load c rkM fullShare)
  isplitl [Hr]; · iexact Hr
  iintro Hr
  iapply (run_store c rkM)
  isplitl [Hr]; · iexact Hr
  iintro Hr
  rw [write_wl, write_rk, run, wp_ret]; imodintro
  iapply Hk
  unfold WL RK
  isplitl [Hw] <;> iassumption

set_option maxHeartbeats 800000 in
/-- The last exchange leaves the device's block of the result. -/
theorem exchange_spec (K : Dev nD × Fin 7 → ℕ) (c : Dev nD) (Kt : PUnit → sProp 𝕄) :
    iprop(records m K ∗ levAts L lv ∗ (dutyTok ER (kcell (c, 5)) 0 () ∗ dutyTok ER (kcell (peer c, 6)) 0 ())
        ∗ cred (tallyAt (kcell (c, 6)) () Nx) ∗ (atPos ER (kcell (c, 5)) 0 ∅ 0 ∗ atPos ER (kcell (c, 6)) 0 ∅ 0)
        ∗ owing c (O₁ c) ∗ pts c accM fullShare (ACC m c 7) ∗ (∃ f, pts (peer c) outM fullShare f)
        ∗ ((pts c accM fullShare (ACC m c 7) ∗ pts c outM fullShare (OUT m c) ∗ owing c 0
            ∗ semVal (kcell (c, 5)) 0 ∗ semVal (kcell (c, 6)) 0) -∗ Kt ⟨⟩)) ⊢ run c (exchange c) Kt := by
  unfold exchange
  simp only [Prog.lift, Prog.bind_op, Prog.bind_ret, Prog.pure_eq_ret]
  iintro ⟨#HR, #Hlev, ⟨Ht5, Ht6⟩, Hc6, ⟨Ha5, Ha6⟩, HO, Hacc, Hout, Hk⟩
  ihave Hacc := (split_acc c fullShare (ACC m c 7)).1 $$ Hacc
  icases Hacc with ⟨Hs, Hkeep⟩
  iapply (send_spec m K c _ (dev4_eq c) (src := accOut c) (dst := outM) 5 6 rfl rfl fullShare (ACC m c 7) Nx (credit_x _) rfl rfl (O₁ c) 0 (zero_add _).symm (Entails.of_eq (pay5 m c).symm) (landed_out m c))
  isplitr
  · isplitr; · iapply (inv_at m K (c, 5)); iexact HR
    isplitr; · iapply (inv_at m K (peer c, 6)); iexact HR
    isplitr; · iapply (reached_at m K (c, 5)); iexact HR
    iapply (reached_at m K (peer c, 6)); iexact HR
  isplitl [Hs]; · iexact Hs
  isplitl [Hout]; · iexact Hout
  isplitl [HO]; · iexact HO
  isplitl [Ht5]; · iexact Ht5
  isplitl [Ht6]; · iexact Ht6
  iintro ⟨Hc5, HO⟩
  iapply (wait_spec m K c 5 rfl (credit_x _) 3 (by decide) 0 (above_zero 3))
  isplitr; · iapply (inv_at m K (c, 5)); iexact HR
  isplitr; · iexact Hlev
  isplitl [Hc5]; · iexact Hc5
  isplitl [HO]; · iexact HO
  isplitl [Ha5]; · iexact Ha5
  iintro ⟨Hs, HO, Hz5⟩
  iapply (wait_spec m K c 6 rfl (credit_x _) 3 (by decide) 0 (above_zero 3))
  isplitr; · iapply (inv_at m K (c, 6)); iexact HR
  isplitr; · iexact Hlev
  isplitl [Hc6]; · iexact Hc6
  isplitl [HO]; · iexact HO
  isplitl [Ha6]; · iexact Ha6
  iintro ⟨Hout, HO, Hz6⟩
  ihave Hout := (Entails.of_eq (pay6 m c)) $$ Hout
  ihave Hacc := (split_acc c fullShare (ACC m c 7)).2 $$ [Hs Hkeep]
  · isplitl [Hs]; · iapply (Entails.of_eq (pay5 m c)); iexact Hs
    iexact Hkeep
  iapply (run_load c outM fullShare)
  isplitl [Hout]; · iexact Hout
  iintro Hout
  iapply (run_load c accM fullShare)
  isplitl [Hacc]; · iexact Hacc
  iintro Hacc
  iapply (run_load c outM fullShare)
  isplitl [Hout]; · iexact Hout
  iintro Hout
  iapply (run_store c outM)
  isplitl [Hout]; · iexact Hout
  iintro Hout
  rw [write_out, read_out, run, wp_ret]; imodintro
  iapply Hk
  unfold OUT
  isplitl [Hacc]; · iexact Hacc
  isplitl [Hout]
  · iexact Hout
  isplitl [HO]; · iexact HO
  isplitl [Hz5] <;> iassumption

/-! ## The slots' buffers -/

theorem mem_slot (b : Fin 2) (i : S2x1024x1024.Idx) :
    i ∈ (Rect.unit (s := S2x1024x1024) ![b.val, 0, 0] S1x1024x1024.size (inb_slot b)).set ↔ (i (0 : Fin 3)).val = b.val := by
  rw [Rect.mem_set_unit]
  have h1 : (i (1 : Fin 3)).val < 1024 := (i (1 : Fin 3)).isLt
  have h2 : (i (2 : Fin 3)).val < 1024 := (i (2 : Fin 3)).isLt
  constructor
  · intro h
    have h0 : b.val ≤ (i (0 : Fin 3)).val ∧ (i (0 : Fin 3)).val < b.val + 1 := h (0 : Fin 3)
    omega
  · rintro h a
    match a with
    | ⟨0, _⟩ => exact ⟨h.symm.le, by show (i (0 : Fin 3)).val < b.val + 1; omega⟩
    | ⟨1, _⟩ => exact ⟨Nat.zero_le _, by show (i (1 : Fin 3)).val < 0 + 1024; omega⟩
    | ⟨2, _⟩ => exact ⟨Nat.zero_le _, by show (i (2 : Fin 3)).val < 0 + 1024; omega⟩

theorem slots_rest : (Finset.univ : Finset S2x1024x1024.Idx) \ (Rect.unit (s := S2x1024x1024) ![(0 : Fin 2).val, 0, 0] S1x1024x1024.size (inb_slot 0)).set
    = (Rect.unit (s := S2x1024x1024) ![(1 : Fin 2).val, 0, 0] S1x1024x1024.size (inb_slot 1)).set := by
  ext i
  have h0 : (i (0 : Fin 3)).val < 2 := (i (0 : Fin 3)).isLt
  rw [Finset.mem_sdiff, mem_slot, mem_slot]
  exact ⟨fun ⟨_, h⟩ => by show _ = 1; change ¬ _ = 0 at h; omega, fun h => ⟨Finset.mem_univ _, by show ¬ _ = 0; change _ = 1 at h; omega⟩⟩

theorem c1Slot_set (b : Fin 2) : (c1Slot b).view.set = (Rect.unit (s := S2x1024x1024) ![b.val, 0, 0] S1x1024x1024.size (inb_slot b)).set :=
  (View.set_reshape (c1M.view.slice _) _).trans ((View.set_slice _ _).trans (map_whole cc0_scratch5 _))
theorem c2Slot_set (b : Fin 2) : (c2Slot b).view.set = (Rect.unit (s := S2x1024x1024) ![b.val, 0, 0] S1x1024x1024.size (inb_slot b)).set :=
  (View.set_reshape (c2M.view.slice _) _).trans ((View.set_slice _ _).trans (map_whole cc0_scratch6 _))

/-- A memref held whole is its buffer held whole. -/
theorem pts_whole (c : Dev nD) (b : Ref sig .tc) (q : PosShare TreeShare) (f : b.ty.Contents (Elt F)) :
    (pts c (Memref.whole b) q f : sProp 𝕄) = (((c : Thread nD τ).loc b) ↦{q} f) := by
  unfold pts; simp only [Memref.view_whole, View.set_whole]

theorem split_c1 (c : Dev nD) : iprop(∃ f, pts c c1M fullShare f : sProp 𝕄) ⊣⊢ iprop((∃ f, pts c (c1Slot 0) fullShare f) ∗ (∃ f, pts c (c1Slot 1) fullShare f)) := by
  have hr : ∀ f, (pts c (c1Slot 1) fullShare f : sProp 𝕄) = (c1M.view.loc (c : Thread nD τ) ↦[c1M.view.set \ (c1Slot 0).view.set]{fullShare} f) := fun f => by
    rw [c1Slot_set 0, show c1M.view.set = Finset.univ from View.set_whole _, slots_rest]; unfold pts; rw [c1Slot_set 1]
  have hs : (c1Slot 0).view.set ⊆ c1M.view.set := by rw [show c1M.view.set = Finset.univ from View.set_whole _]; exact Finset.subset_univ _
  constructor
  · iintro ⟨%f, H⟩
    ihave H := (pointsTo_split_subset (ℓ := c1M.view.loc (c : Thread nD τ)) (q := fullShare) (f := f) hs).1 $$ [H]
    · unfold pts; iexact H
    icases H with ⟨H0, H1⟩
    isplitl [H0]; · iexists f; unfold pts; iexact H0
    iexists f; rw [hr]; iexact H1
  · iintro ⟨⟨%f, H0⟩, ⟨%g, H1⟩⟩
    iexists _
    ihave H := (pointsTo_join_subset (ℓ := c1M.view.loc (c : Thread nD τ)) (q := fullShare) (g := f) (f := g) hs) $$ [H0 H1]
    · rw [← hr]
      isplitl [H0]; · unfold pts; iexact H0
      iexact H1
    unfold pts; iexact H
theorem split_c2 (c : Dev nD) : iprop(∃ f, pts c c2M fullShare f : sProp 𝕄) ⊣⊢ iprop((∃ f, pts c (c2Slot 0) fullShare f) ∗ (∃ f, pts c (c2Slot 1) fullShare f)) := by
  have hr : ∀ f, (pts c (c2Slot 1) fullShare f : sProp 𝕄) = (c2M.view.loc (c : Thread nD τ) ↦[c2M.view.set \ (c2Slot 0).view.set]{fullShare} f) := fun f => by
    rw [c2Slot_set 0, show c2M.view.set = Finset.univ from View.set_whole _, slots_rest]; unfold pts; rw [c2Slot_set 1]
  have hs : (c2Slot 0).view.set ⊆ c2M.view.set := by rw [show c2M.view.set = Finset.univ from View.set_whole _]; exact Finset.subset_univ _
  constructor
  · iintro ⟨%f, H⟩
    ihave H := (pointsTo_split_subset (ℓ := c2M.view.loc (c : Thread nD τ)) (q := fullShare) (f := f) hs).1 $$ [H]
    · unfold pts; iexact H
    icases H with ⟨H0, H1⟩
    isplitl [H0]; · iexists f; unfold pts; iexact H0
    iexists f; rw [hr]; iexact H1
  · iintro ⟨⟨%f, H0⟩, ⟨%g, H1⟩⟩
    iexists _
    ihave H := (pointsTo_join_subset (ℓ := c2M.view.loc (c : Thread nD τ)) (q := fullShare) (g := f) (f := g) hs) $$ [H0 H1]
    · rw [← hr]
      isplitl [H0]; · unfold pts; iexact H0
      iexact H1
    unfold pts; iexact H

/-! ## What the body starts from and leaves -/

/-- The device's positions at its seven cells, -/
def positions (c : Dev nD) : sProp 𝕄 :=
  iprop(atPos ER (kcell (c, 0)) 0 ∅ 0 ∗ atPos ER (kcell (c, 1)) 0 ∅ 0 ∗ atPos ER (kcell (c, 2)) 0 ∅ 0 ∗ atPos ER (kcell (c, 3)) 0 ∅ 0
    ∗ atPos ER (kcell (c, 4)) 0 ∅ 0 ∗ atPos ER (kcell (c, 5)) 0 ∅ 0 ∗ atPos ER (kcell (c, 6)) 0 ∅ 0)
/-- and the tokens of the duties it pays: its own send cells, the peer's barrier and receive cells. -/
def payToks (c : Dev nD) : sProp 𝕄 :=
  iprop(dutyTok ER (kcell (peer c, 0)) 0 () ∗ dutyTok ER (kcell (c, 1)) 0 () ∗ dutyTok ER (kcell (peer c, 2)) 0 () ∗ dutyTok ER (kcell (c, 3)) 0 ()
    ∗ dutyTok ER (kcell (peer c, 4)) 0 () ∗ dutyTok ER (kcell (c, 5)) 0 () ∗ dutyTok ER (kcell (peer c, 6)) 0 ())
/-- The slots' semaphores at zero. -/
def slotSems (c : Dev nD) : sProp 𝕄 :=
  iprop(semVal ((c : Thread nD τ), .dma (s1 0).sem) 0 ∗ semVal ((c : Thread nD τ), .dma (s1 1).sem) 0
    ∗ semVal ((c : Thread nD τ), .dma (s2 0).sem) 0 ∗ semVal ((c : Thread nD τ), .dma (s2 1).sem) 0)
/-- What the launch deals to a device. -/
def dealt (c : Dev nD) : sProp 𝕄 := iprop((∃ K, records m K) ∗ positions c ∗ payToks c ∗ slotSems c)
/-- The credit a device is owed. -/
def owedTo (c : Dev nD) : sProp 𝕄 :=
  iprop(cred (tallyAt (kcell (c, 0)) () 1) ∗ cred (tallyAt (kcell (c, 2)) () Nx) ∗ cred (tallyAt (kcell (c, 4)) () Nr) ∗ cred (tallyAt (kcell (c, 6)) () Nx))
/-- The weights, in HBM, as at launch. -/
def weights (c : Dev nD) : sProp 𝕄 := iprop(pts c W1M fullShare (w1in m c) ∗ pts c W2M fullShare (w2in m c))
/-- The kernel's buffers, whatever they hold. -/
def buffers (c : Dev nD) : sProp 𝕄 :=
  iprop((∃ f, pts c xfM fullShare f) ∗ (∃ f, pts c rhM fullShare f) ∗ (∃ f, pts c wlM fullShare f) ∗ (∃ f, pts c rkM fullShare f)
    ∗ (∃ f, pts c accM fullShare f) ∗ (∃ f, pts c c1M fullShare f) ∗ (∃ f, pts c c2M fullShare f))
def start (c : Dev nD) : sProp 𝕄 := iprop(dealt m c ∗ owedTo c ∗ levAts L lv ∗ weights m c)

def Φ₀ (c : Dev nD) : sProp 𝕄 := iprop(start m c ∗ buffers c)
def zeros (c : Dev nD) : sProp 𝕄 :=
  iprop((semVal (kcell (c, 0)) 0 ∗ semVal (kcell (c, 1)) 0 ∗ semVal (kcell (c, 2)) 0 ∗ semVal (kcell (c, 3)) 0
    ∗ semVal (kcell (c, 4)) 0 ∗ semVal (kcell (c, 5)) 0 ∗ semVal (kcell (c, 6)) 0) ∗ slotSems c)
def Φ₁ (c : Dev nD) : sProp 𝕄 := iprop(buffers c ∗ zeros c ∗ weights m c)

set_option maxHeartbeats 1600000 in
/-- The body, from what the launch deals to the device's block of the result. -/
theorem flat_spec (c : Dev nD) (Kt : PUnit → sProp 𝕄) :
    iprop(Φ₀ m c ∗ owing c (O₀ c) ∗ pts c xM fullShare (xin m c) ∗ pts c rM fullShare (rin m c) ∗ (∃ f, pts c outM fullShare f)
        ∗ ((Φ₁ m c ∗ owing c 0 ∗ pts c xM fullShare (xin m c) ∗ pts c rM fullShare (rin m c) ∗ pts c outM fullShare (OUT m c)) -∗ Kt ⟨⟩))
      ⊢ run c flat Kt := by
  unfold flat
  simp only [Prog.lift, Prog.bind_op, Prog.bind_ret, run, wp_deviceId, wp_bind]
  unfold Φ₀ start dealt positions payToks slotSems owedTo weights buffers
  iintro ⟨⟨⟨⟨⟨%K, #HR⟩, ⟨Ha0, Ha1, Ha2, Ha3, Ha4, Ha5, Ha6⟩, ⟨Ht0, Ht1, Ht2, Ht3, Ht4, Ht5, Ht6⟩, Hs10, Hs11, Hs20, Hs21⟩,
    ⟨Hc0, Hc2, Hc4, Hc6⟩, #Hlev, HW1, HW2⟩, ⟨%fx, Hx⟩, ⟨%fr, Hr⟩, Hwl, Hrk, Hacc, Hb1, Hb2⟩, HO, Hxm, Hrm, Hout, Hk⟩
  ihave Hx := (split_x c fullShare fx).1 $$ Hx
  icases Hx with ⟨Hxp, Hxo⟩
  ihave Hr := (split_r c fullShare fr).1 $$ Hr
  icases Hr with ⟨Hrp, Hro⟩
  ihave Hxm := (halves c xM (xin m c)).1 $$ Hxm
  icases Hxm with ⟨Hxl, Hxr⟩
  ihave Hrm := (halves c rM (rin m c)).1 $$ Hrm
  icases Hrm with ⟨Hrl, Hrr⟩
  ihave HW1 := (halves c W1M (w1in m c)).1 $$ HW1
  icases HW1 with ⟨HW1a, HW1b⟩
  ihave HW2 := (halves c W2M (w2in m c)).1 $$ HW2
  icases HW2 with ⟨HW2a, HW2b⟩
  ihave Hb1 := (split_c1 c).1 $$ Hb1
  icases Hb1 with ⟨Hb10, Hb11⟩
  ihave Hb2 := (split_c2 c).1 $$ Hb2
  icases Hb2 with ⟨Hb20, Hb21⟩
  iapply (gather1_spec m K c)
  isplitr; · iexact HR
  isplitr; · iexact Hlev
  isplitl [Ht0 Ht1 Ht2 Ht3 Ht4]
  · isplitl [Ht0]; · iexact Ht0
    isplitl [Ht1]; · iexact Ht1
    isplitl [Ht2]; · iexact Ht2
    isplitl [Ht3] <;> iassumption
  isplitl [Hxp]; · iexists fx; iexact Hxp
  isplitl [Hrp]; · iexists fr; iexact Hrp
  isplitl [Hout]; · iexact Hout
  isplitl [Hc0]; · iexact Hc0
  isplitl [Ha0]; · iexact Ha0
  isplitl [Hxl]; · iexact Hxl
  isplitl [Hrl]; · iexact Hrl
  isplitl [HO]; · iexact HO
  iintro ⟨Hc1, Hc3, Hout, Hz0, HO⟩
  iapply (start_spec m c 0 0 0)
  isplitl [Hb10 Hb20 HW1a HW2a Hs10 Hs20]
  · unfold slotIdle
    isplitl [Hb10]; · iexact Hb10
    isplitl [Hb20]; · iexact Hb20
    isplitl [HW1a]; · iexact HW1a
    isplitl [HW2a]; · iexact HW2a
    isplitl [Hs10] <;> iassumption
  iintro Hf0
  iapply (gather2_spec m c)
  isplitl [Hxr]; · iexact Hxr
  isplitl [Hrr]; · iexact Hrr
  isplitl [Hxo]; · iexists fx; iexact Hxo
  isplitl [Hro]; · iexists fr; iexact Hro
  iintro ⟨Hxr, Hrr, Hxo, Hro⟩
  iapply (gather3_spec m K c)
  isplitr; · iexact HR
  isplitr; · iexact Hlev
  isplitl [Hc1 Hc2 Hc3 Hc4]
  · isplitl [Hc1]; · iexact Hc1
    isplitl [Hc2]; · iexact Hc2
    isplitl [Hc3] <;> iassumption
  isplitl [Ha1 Ha2 Ha3 Ha4]
  · isplitl [Ha1]; · iexact Ha1
    isplitl [Ha2]; · iexact Ha2
    isplitl [Ha3] <;> iassumption
  isplitl [HO]; · iexact HO
  isplitl [Hxr]; · iexact Hxr
  isplitl [Hrr]; · iexact Hrr
  isplitl [Hxo]; · iexact Hxo
  isplitl [Hro]; · iexact Hro
  iintro ⟨Hxm, Hrm, Hx, Hr, HO, Hz1, Hz2, Hz3, Hz4⟩
  simp only [run, wp_bind]
  iapply (routing_spec m c)
  isplitl [Hwl]; · iexact Hwl
  isplitl [Hrk]; · iexact Hrk
  iintro ⟨Hwl, Hrk⟩
  iapply (experts_spec m c (O₁ c) (above_O₁ c 0 (by decide)))
  isplitl [Hx Hwl Hrk]
  · unfold routed
    isplitl [Hx]; · iexact Hx
    isplitl [Hwl] <;> iassumption
  isplitl [Hacc]; · iexact Hacc
  isplitl [Hf0]; · iexact Hf0
  isplitl [Hb11 Hb21 HW1b HW2b Hs11 Hs21]
  · unfold slotIdle
    isplitl [Hb11]; · iexact Hb11
    isplitl [Hb21]; · iexact Hb21
    isplitl [HW1b]; · iexact HW1b
    isplitl [HW2b]; · iexact HW2b
    isplitl [Hs11] <;> iassumption
  isplitr; · iexact Hlev
  isplitl [HO]; · iexact HO
  unfold routed slotIdle
  iintro ⟨⟨Hx, Hwl, Hrk⟩, Hacc, ⟨Hb10, Hb20, HW1a, HW2a, Hs10, Hs20⟩, ⟨Hb11, Hb21, HW1b, HW2b, Hs11, Hs21⟩, HO⟩
  iapply (exchange_spec m K c)
  isplitr; · iexact HR
  isplitr; · iexact Hlev
  isplitl [Ht5 Ht6]; · isplitl [Ht5] <;> iassumption
  isplitl [Hc6]; · iexact Hc6
  isplitl [Ha5 Ha6]; · isplitl [Ha5] <;> iassumption
  isplitl [HO]; · iexact HO
  isplitl [Hacc]; · iexact Hacc
  isplitl [Hout]; · iexact Hout
  iintro ⟨Hacc, Hout, HO, Hz5, Hz6⟩
  iapply Hk
  ihave Hb1 := (split_c1 c).2 $$ [Hb10 Hb11]
  · isplitl [Hb10] <;> iassumption
  ihave Hb2 := (split_c2 c).2 $$ [Hb20 Hb21]
  · isplitl [Hb20] <;> iassumption
  ihave HW1 := (halves c W1M (w1in m c)).2 $$ [HW1a HW1b]
  · isplitl [HW1a]; · iexact HW1a
    iexact HW1b
  ihave HW2 := (halves c W2M (w2in m c)).2 $$ [HW2a HW2b]
  · isplitl [HW2a]; · iexact HW2a
    iexact HW2b
  unfold Φ₁ buffers zeros slotSems weights
  isplitr [HO Hxm Hrm Hout]
  · isplitl [Hx Hr Hwl Hrk Hacc Hb1 Hb2]
    · isplitl [Hx]; · iexists _; iexact Hx
      isplitl [Hr]; · iexists _; iexact Hr
      isplitl [Hwl]; · iexists _; iexact Hwl
      isplitl [Hrk]; · iexists _; iexact Hrk
      isplitl [Hacc]; · iexists _; iexact Hacc
      isplitl [Hb1] <;> iassumption
    isplitr [HW1 HW2]
    · isplitr [Hs10 Hs11 Hs20 Hs21]
      · isplitl [Hz0]; · iexact Hz0
        isplitl [Hz1]; · iexact Hz1
        isplitl [Hz2]; · iexact Hz2
        isplitl [Hz3]; · iexact Hz3
        isplitl [Hz4]; · iexact Hz4
        isplitl [Hz5] <;> iassumption
      isplitl [Hs10]; · iexact Hs10
      isplitl [Hs11]; · iexact Hs11
      isplitl [Hs20] <;> iassumption
    isplitl [HW1] <;> iassumption
  isplitl [HO]; · iexact HO
  isplitl [Hxm]; · iexact Hxm
  isplitl [Hrm] <;> iassumption

end Cert.KernelIdeal.Moe

end

end
-- ==== Proof.Launch.lean ====
module

public import proofs.«01_k».proof.Proof.Body
public import proofs.«01_k».proof.Proof.Gen.KernelIdeal.Launch
public import proofs.«01_k».proof.Proof.Gen.KernelIdeal.Points
public import Idealize.ShloMosaic.Lib.Pipeline.CollectiveSegs

/-!
# The launch

The launch deals each device its cells, its tokens and the credit its peer owes it; the body runs on every device; at
the end each device's result array holds its block, every argument is unchanged and every semaphore is at zero.
-/

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

/-- The pipeline's proof data: both inputs stay, the result's block is the device's. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => rin m c
    | ⟨2, _⟩ => OUT m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ m c ∗ (dats m ρ 0 c).owesAt () t0_0.succ ∗ stg c cc0_stg0_0 (xin m c) ∗ stg c cc0_stg1_0 (rin m c) ∗ stg c cc0_stg2_0 (OUT m c))

theorem before_x (c : Dev nD) (d) : (dats m ρ 0 c).before (0 : Fin 3) t0_0 d = xin m c := by
  unfold Dat.before; rw [if_pos (fetch0_0 t0_0)]; rfl
theorem before_r (c : Dev nD) (d) : (dats m ρ 0 c).before (1 : Fin 3) t0_0 d = rin m c := by
  unfold Dat.before; rw [if_pos (fetch0_1 t0_0)]; rfl

/-- The body on what the pipeline hands it. -/
theorem sound_body (c : Dev nD) : bodyPre m ρ c ⊢ run c flat (fun _ => bodyPost m ρ c) := by
  unfold bodyPre
  iintro ⟨HΦ, Ho, ⟨%d0, %g0, %hg0, Hx⟩, ⟨%d1, %g1, %hg1, Hr⟩, ⟨%d2, %g2, %hg2, Hout⟩⟩
  have hx : g0 = xin m c := by rw [hg0]; exact before_x m ρ c d0
  have hr : g1 = rin m c := by rw [hg1]; exact before_r m ρ c d1
  subst hx
  subst hr
  unfold Dat.owesAt Pipeline.owesWithin
  icases Ho with ⟨%W, %hW, HO⟩
  iapply (flat_spec m c)
  isplitl [HΦ]; · iexact HΦ
  isplitl [HO]; · unfold owing; iexists W; iexact HO
  isplitl [Hx]; · rw [pts_whole]; iexact Hx
  isplitl [Hr]; · rw [pts_whole]; iexact Hr
  isplitl [Hout]; · iexists g2; rw [pts_whole]; iexact Hout
  simp only [pts_whole]
  iintro ⟨HΦ, HO, Hx, Hr, Hout⟩
  unfold bodyPost Dat.owesAt Pipeline.owesWithin owing
  icases HO with ⟨%W', HO⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  iexists _; isplitr; · (ipureintro; rfl)
  iexact Hout

set_option maxRecDepth 4000 in
/-- The library's body obligation on a device. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (F := F) xM (Memref.isWhole_whole _) rM (Memref.isWhole_whole _) W1M (Memref.isWhole_whole _) W2M (Memref.isWhole_whole _)
    outM (Memref.isWhole_whole _) xfM (Memref.isWhole_whole _) rhM (Memref.isWhole_whole _) wlM (Memref.isWhole_whole _) rkM (Memref.isWhole_whole _)
    accM (Memref.isWhole_whole _) c1M (Memref.isWhole_whole _) c2M (Memref.isWhole_whole _)
    cc0_scratch7 cc0_scratch8 cc0_scratch9 cc0_scratch10 cc0_scratch11 cc0_scratch12 cc0_scratch13 cc0_scratch14) (fun _ => bodyPost m ρ c)
  rw [body_flat]
  exact sound_body m ρ c

/-! ## The cells and tokens at launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 7 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- All cells of the protocol, -/
def ringCells : Finset (GSem nD τ sig) := Finset.univ.map ⟨kcell, kcell_injective⟩
/-- and their tokens: one at each. -/
def ringToks : Finset (GSem nD τ sig × ℕ × Unit) :=
  Finset.univ.map ⟨fun ck : Dev nD × Fin 7 => (kcell ck, 0, ()), fun _ _ h => kcell_injective (congrArg Prod.fst h)⟩

/-- The launch element. -/
def u₀ : UU := (initOf (Pipeline.cells cfgs cellOf_inj) (Pipeline.launchToks cfgs cellOf_inj), (initOf ringCells ringToks, 1))

/-- The tokens of a device's own cells. -/
def toks (c : Dev nD) : sProp 𝕄 := bigSep Finset.univ fun k : Fin 7 => dutyTok ER (kcell (c, k)) 0 ()

/-- What the launch element deals a device, -/
def G (c : Dev nD) : sProp 𝕄 :=
  iprop((bigSep Finset.univ fun k : Fin 7 => roundState ER (Rd m) (kcell (c, k)) 0)
    ∗ ((bigSep Finset.univ fun k : Fin 7 => atPos ER (kcell (c, k)) 0 ∅ 0) ∗ (bigSep Finset.univ fun k : Fin 7 => reached ER (kcell (c, k)) 0)) ∗ toks c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores: six of the protocol, four of the slots. -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0 ∗ semVal (kcell (c, 6)) 0
      ∗ semVal ((c : Thread nD τ), .dma (s1 0).sem) 0 ∗ semVal ((c : Thread nD τ), .dma (s1 1).sem) 0
      ∗ semVal ((c : Thread nD τ), .dma (s2 0).sem) 0 ∗ semVal ((c : Thread nD τ), .dma (s2 1).sem) 0) := by
  rw [Pipeline.ownSems0_eq_of_list c osem [0, 1, 2, 3, 4, 5, 6, 7, 8, 9] (by decide) (by decide)]; rfl
/-- The barrier is the launch's one unscoped semaphore. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊣⊢ (zeros c : sProp 𝕄) := by
  rw [ownSems0_eq, unscopedSems0_eq]
  unfold zeros slotSems
  constructor
  · iintro ⟨⟨H1, H2, H3, H4, H5, H6, Hs⟩, H0⟩
    isplitr [Hs]
    · isplitl [H0]; · iexact H0
      isplitl [H1]; · iexact H1
      isplitl [H2]; · iexact H2
      isplitl [H3]; · iexact H3
      isplitl [H4]; · iexact H4
      isplitl [H5] <;> iassumption
    iexact Hs
  · iintro ⟨⟨H0, H1, H2, H3, H4, H5, H6⟩, Hs⟩
    isplitr [H0]
    · isplitl [H1]; · iexact H1
      isplitl [H2]; · iexact H2
      isplitl [H3]; · iexact H3
      isplitl [H4]; · iexact H4
      isplitl [H5]; · iexact H5
      isplitl [H6] <;> iassumption
    iexact H0

/-- The cells' invariants, allocated from the semaphores at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 7 => reached ER (kcell (c, k)) 0)
          ∗ toks c ∗ positions c ∗ slotSems c) := by
  unfold G
  iintro ⟨Hos, Hus, Hst, ⟨Hat, Hr⟩, Htok⟩
  ihave Hv := (sems0_eq (F := F) c).1 $$ [Hos Hus]
  · isplitl [Hos] <;> iassumption
  unfold zeros
  icases Hv with ⟨Hv, Hs⟩
  ihave Hv := (Entails.of_eq (bigSep_fin7 fun k : Fin 7 => semVal (kcell (c, k)) 0).symm) $$ Hv
  imod (show iprop((bigSep Finset.univ fun k : Fin 7 => semVal (kcell (c, k)) 0) ∗ bigSep Finset.univ fun k : Fin 7 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Htok]; · iexact Htok
  isplitl [Hat]; · unfold positions; iapply (Entails.of_eq (bigSep_fin7 fun k : Fin 7 => atPos ER (kcell (c, k)) 0 ∅ 0)); iexact Hat
  iexact Hs

/-- The tokens of the barrier and receive cells go to the peer. -/
theorem toks_around : (bigSep Finset.univ fun c : Dev nD => (toks c : sProp 𝕄)) ⊢ bigSep Finset.univ fun c : Dev nD => payToks c := by
  have h (k : Fin 7) : (bigSep Finset.univ fun c : Dev nD => (dutyTok ER (kcell (c, k)) 0 () : sProp 𝕄))
      = bigSep Finset.univ fun c : Dev nD => dutyTok ER (kcell (peer c, k)) 0 () :=
    bigSep_univ_equiv pairing (fun c : Dev nD => (dutyTok ER (kcell (c, k)) 0 () : sProp 𝕄))
  unfold toks payToks
  simp only [bigSep_fin7, bigSep_sep']
  rw [h 0, h 2, h 4, h 6]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k : Fin 7 => reached ER (kcell (c, k)) 0)
          ∗ toks c ∗ positions c ∗ slotSems c) : sProp 𝕄)
      ⊢ bigSep Finset.univ (dealt m) := by
  rw [bigSep_sep', bigSep_sep', bigSep_sep', ← bigSep_univ_prod (fun ck : Dev nD × Fin 7 => iprop(∃ κ : ℕ, cellInv ER (Rd m) κ (kcell ck))),
    ← bigSep_univ_prod (fun ck : Dev nD × Fin 7 => (reached ER (kcell ck) 0 : sProp 𝕄))]
  iintro ⟨HI, #HR, Htok, Hrest⟩
  ihave HK := (BI.bigSep_exists_pi Finset.univ (fun (ck : Dev nD × Fin 7) (κ : ℕ) => (cellInv ER (Rd m) κ (kcell ck) : sProp 𝕄))) $$ HI
  icases HK with ⟨%K, #HI⟩
  ihave Htk := (toks_around (F := F)) $$ Htok
  iapply (bigSep_with_persistent (R := records m K) (Φ := fun c => iprop(payToks c ∗ positions c ∗ slotSems c)) fun c _ => by
    unfold dealt
    iintro ⟨HR, Ht, Hp, Hs⟩
    isplitl [HR]; · iexists K; iexact HR
    isplitl [Hp]; · iexact Hp
    isplitl [Ht] <;> iassumption)
  isplitr
  · unfold records; isplitl; · iexact HI
    iexact HR
  · iapply (Entails.of_eq (bigSep_sep' Finset.univ payToks fun c => iprop(positions c ∗ slotSems c)).symm)
    isplitl [Htk]; · iexact Htk
    iexact Hrest

/-- The global step: all devices' semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (dealt m) :=
  ((bigSep_mono fun c _ => core_alloc m c).trans (bigSep_fupd _ _)).trans (BI.fupd_mono (regroup m))

/-! ## The launch's credit -/

theorem cred_at (k : Fin 7) (n : ℕ) (c : Dev nD) :
    (Pipeline.launchCred (fun d => tallyAt (kcell (peer d, k)) () n) c : sProp 𝕄) ⊢ cred (tallyAt (kcell (c, k)) () n) :=
  Pipeline.launchCred_tallyAt (csem k) peer peer peer_peer peer_peer () n c

theorem creds (c : Dev nD) : (Pipeline.launchCred O₀ c : sProp 𝕄) ⊢ owedTo c := by
  rw [show (O₀ : Dev nD → CellTallies nD τ sig Unit) = fun d => ((tallyAt (kcell (peer d, 6)) () Nx + tallyAt (kcell (peer d, 4)) () Nr)
      + tallyAt (kcell (peer d, 2)) () Nx) + tallyAt (kcell (peer d, 0)) () 1 from rfl,
    Pipeline.launchCred_add, Pipeline.launchCred_add, Pipeline.launchCred_add]
  unfold owedTo
  iintro ⟨⟨⟨H6, H4⟩, H2⟩, H0⟩
  isplitl [H0]; · iapply (cred_at 0 1 c); iexact H0
  isplitl [H2]; · iapply (cred_at 2 Nx c); iexact H2
  isplitl [H4]; · iapply (cred_at 4 Nr c); iexact H4
  iapply (cred_at 6 Nx c); iexact H6

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  rw [Pipeline.unscopedRestP_none, unscopedRest0_eq]
  iintro ⟨⟨HW1, HW2⟩, Hlev, Hcr, -, HG⟩
  ihave Hc := (creds (F := F) c) $$ Hcr
  imodintro
  unfold start weights
  isplitl
  · isplitl [HG]; · iexact HG
    isplitl [Hc]; · iexact Hc
    isplitl [Hlev]; · iexact Hlev
    isplitl [HW1]; · rw [pts_whole]; iexact HW1
    rw [pts_whole]; iexact HW2
  · iempintro

theorem buffers_eq (c : Dev nD) : (buffers c : sProp 𝕄) = Pipeline.scopedRest cfg0.spec c := by
  rw [scopedRest0_eq]; unfold buffers; simp only [pts_whole]

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← buffers_eq]
  unfold Φ₀
  iintro ⟨Hs, -, Hr⟩
  isplitl [Hs] <;> iassumption

theorem phi1_exit (c : Dev nD) :
    (dats m ρ 0 c).Φ (Fin.last cfg0.N) ⊢ iprop((unscopedSems0 c ∗ weights m c) ∗ Pipeline.ownSems0 osem c ∗ Pipeline.scopedRest cfg0.spec c) := by
  rw [show (dats m ρ 0 c).Φ (Fin.last cfg0.N) = Φ₁ m c from rfl, ← buffers_eq]
  unfold Φ₁
  iintro ⟨Hb, Hz, Hw⟩
  ihave Hz := (sems0_eq (F := F) c).2 $$ Hz
  icases Hz with ⟨Ho, Hu⟩
  isplitl [Hu Hw]
  · isplitl [Hu] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait c _ 0 (by dsimp only [lv]; fin_cases w <;> fin_cases s <;> decide) _ (by
      rcases t with ⟨_ | _, ht⟩
      · exact above_O₀ c
      · exact above_zero 0)

/-! ## The run -/

/-- A window's array at the end. -/
def finalA (c : Dev nD) (w : Fin cfg0.W) : Buf (Elt F) ((cfg0.win w).arr.view.loc (c : Thread nD τ)) := (dats m ρ 0 c).arrAt w cfg0.N

/-- A device's semaphores outside the launch are at zero and its weights are as they were. -/
def Kept (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2)
    ∧ s.mem ((c : Thread nD τ).loc main_arg3) = m ((c : Thread nD τ).loc main_arg3)

theorem kept_read (c : Dev nD) (s' : Phys nD τ sig (Elt F)) :
    iprop((unscopedSems0 c ∗ weights m c) ∗ emp ∗ SI s') ⊢ |={Set.univ}=> iprop(⌜Kept m c s'.mem⌝ ∗ SI s') := by
  unfold weights
  simp only [pts_whole]
  iintro ⟨⟨Hu, H1, H2⟩, -, HSI⟩
  icombine HSI H1 gives %h1
  icombine HSI H2 gives %h2
  imod (Pipeline.unscopedSems0_read (X := unscopedSems0 c) (c := c) fupd_intro s') $$ [Hu HSI] with ⟨%h, HSI⟩
  · isplitl [Hu] <;> iassumption
  imodintro
  isplitr
  · ipureintro
    exact ⟨h, funext fun i => h1 i (Finset.mem_univ _), funext fun i => h2 i (Finset.mem_univ _)⟩
  iexact HSI

set_option maxRecDepth 8000 in
/-- Every weakly fair execution of the program ends, with each window's array at its final contents, the weights
    unchanged and every semaphore at zero. -/
theorem run_main : θ_run defs (onTc (τ := τ) (main (F := F))) (s₀ m ρ) (fun r =>
    (∀ c : Dev nD, (∀ w : Fin cfg0.W, r.2.mem ((cfg0.win w).arr.view.loc (c : Thread nD τ)) = finalA m ρ c w) ∧ Kept m c r.2)
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := dealt m) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ weights m c)) (Z := fun _ => iprop(emp))
    (hX := start_intro m ρ) (hin := phi0_intro m ρ) (hout := phi1_exit m ρ)
    (QY := fun c s => Kept m c s)
    (hY := fun c s' => kept_read m c s')
    (hQ := fun _ h hs => ⟨fun c => ⟨fun w => (h c).1 w, (h c).2.2⟩, sem_eq_zero hs fun c => (h c).2.2.1⟩)

theorem finalA_x (c : Dev nD) : finalA m ρ c (0 : Fin 3) = m ((c : Thread nD τ).loc main_arg0) := (dats (F := F) m ρ 0 c).arrAt_in (0 : Fin 3) rfl _
theorem finalA_r (c : Dev nD) : finalA m ρ c (1 : Fin 3) = m ((c : Thread nD τ).loc main_arg1) := (dats (F := F) m ρ 0 c).arrAt_in (1 : Fin 3) rfl _

/-- A block that is the whole array is read off as it is. -/
theorem blk_x (i : S1024x1024.Idx) : (win0_0.blk (0 : Fin 1)).view.emb i = i :=
  funext fun a => Fin.ext (by
    match a with
    | ⟨0, _⟩ => show 0 * 1024 + 1 * (i (0 : Fin 2)).val = (i (0 : Fin 2)).val; omega
    | ⟨1, _⟩ => show 0 * 1024 + 1 * (i (1 : Fin 2)).val = (i (1 : Fin 2)).val; omega)
theorem blk_r (i : S1024x8.Idx) : (win0_1.blk (0 : Fin 1)).view.emb i = i :=
  funext fun a => Fin.ext (by
    match a with
    | ⟨0, _⟩ => show 0 * 1024 + 1 * (i (0 : Fin 2)).val = (i (0 : Fin 2)).val; omega
    | ⟨1, _⟩ => show 0 * 8 + 1 * (i (1 : Fin 2)).val = (i (1 : Fin 2)).val; omega)
theorem blk_o (t : Fin cfg0.N) (i : S1024x1024.Idx) : (win0_2.blk t).view.emb i = i :=
  funext fun a => Fin.ext (by
    match a with
    | ⟨0, _⟩ => show 0 * 1024 + 1 * (i (0 : Fin 2)).val = (i (0 : Fin 2)).val; omega
    | ⟨1, _⟩ => show 0 * 1024 + 1 * (i (1 : Fin 2)).val = (i (1 : Fin 2)).val; omega)

theorem xin_eq (c : Dev nD) : xin m c = m ((c : Thread nD τ).loc main_arg0) :=
  funext fun i => congrArg (m ((c : Thread nD τ).loc main_arg0)) (blk_x i)
theorem rin_eq (c : Dev nD) : rin m c = m ((c : Thread nD τ).loc main_arg1) :=
  funext fun i => congrArg (m ((c : Thread nD τ).loc main_arg1)) (blk_r i)

/-- The result array ends holding the device's block. -/
theorem finalA_o (c : Dev nD) : finalA m ρ c (2 : Fin 3) = OUT m c :=
  (dats m ρ 0 c).arrAt_eq_of_cover (2 : Fin 3) (OUT m c)
    (fun t _ => funext fun i => (congrArg (OUT m c) (blk_o t i)).symm)
    (fun i => ⟨t0_0, flush0_2 t0_0, by rw [← blk_o t0_0 i]; exact View.emb_mem_set _ i⟩)

/-- What the run leaves: each device's block of the result, the arguments unchanged, the semaphores at zero. -/
theorem run_blocks : θ_run defs (onTc (τ := τ) (main (F := F))) ⟨m, fun _ => 0, ρ⟩ (fun r =>
    (∀ c : Dev nD, r.2.mem ((c.tc : Thread nD τ).loc main_v1) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 2).trans (finalA_o m ρ c), ((h.1 c).1 0).trans (finalA_x m ρ c),
    ((h.1 c).1 1).trans (finalA_r m ρ c), (h.1 c).2.2.1, (h.1 c).2.2.2⟩, h.2⟩) (run_main m ρ)

end Cert.KernelIdeal.Moe

end

end
-- ==== Proof.Value.Math.lean ====
module

public import Idealize.ShloMosaic.PureOps.Ideal
public import Idealize.ShloMosaic.PureOps.Ideal.Laws
public import Idealize.ShloMosaic.Lib.IdealHost
public import Idealize.ShloMosaic.Lib.Pipeline.ValueKit.Acc

@[expose] public section

noncomputable section

namespace Cert.Experts

open Idealize.ShloMosaic

/-! ## The weights of one token -/

/-- The value below all others that the maxima start from. -/
abbrev bottom : EReal := Ideal.ofBits .f32 0xFF800000#32

/-- The greatest gate. -/
def top (g : Fin 16 → EReal) : EReal := Finset.univ.fold max bottom g
/-- The gates with the greatest taken out. -/
def rest (g : Fin 16 → EReal) (e : Fin 16) : EReal := if g e = top g then bottom else g e
/-- The exponential of how far the second gate lies below the first. -/
def second (g : Fin 16 → EReal) : EReal := Ideal.exp (top (rest g) - top g)
/-- The weight of expert `e`. -/
def weight (g : Fin 16 → EReal) (e : Fin 16) : EReal :=
  (if g e = top g then Ideal.div 1 (1 + second g) else 0) + (if rest g e = top (rest g) then Ideal.div (second g) (1 + second g) else 0)

theorem le_top (g : Fin 16 → EReal) (e : Fin 16) : g e ≤ top g :=
  (Finset.le_fold_max (g e)).mpr (Or.inr ⟨e, Finset.mem_univ e, le_rfl⟩)

/-- A gate is the greatest when it is at least the greatest. -/
theorem top_le_iff (g : Fin 16 → EReal) (e : Fin 16) : top g ≤ g e ↔ g e = top g :=
  ⟨fun h => le_antisymm (le_top g e) h, fun h => h.ge⟩

theorem exp_nonneg (x : EReal) : 0 ≤ Ideal.exp x := by
  induction x with
  | bot => exact le_rfl
  | top => exact _root_.le_top
  | coe r => exact EReal.coe_nonneg.mpr (Real.exp_pos r).le

theorem second_nonneg (g : Fin 16 → EReal) : 0 ≤ second g := exp_nonneg _

theorem one_add_ne_zero {s : EReal} (h : 0 ≤ s) : 1 + s ≠ 0 :=
  (lt_of_lt_of_le zero_lt_one (le_add_of_nonneg_right h)).ne'

theorem div_eq {s : EReal} (h : 0 ≤ s) (x : EReal) : Ideal.div x (1 + s) = x * (1 + s)⁻¹ := if_neg (one_add_ne_zero h)

theorem div_nonneg {s x : EReal} (h : 0 ≤ s) (hx : 0 ≤ x) : 0 ≤ Ideal.div x (1 + s) := by
  rw [div_eq h]
  exact mul_nonneg hx (EReal.inv_nonneg_of_nonneg (add_nonneg zero_le_one h))

/-- No weight is negative. -/
theorem weight_nonneg (g : Fin 16 → EReal) (e : Fin 16) : 0 ≤ weight g e := by
  unfold weight
  refine add_nonneg ?_ ?_
  · split
    · exact div_nonneg (second_nonneg g) zero_le_one
    · exact le_rfl
  · split
    · exact div_nonneg (second_nonneg g) (second_nonneg g)
    · exact le_rfl

/-- The two indicators put over the one divisor give the weight. -/
theorem weight_eq (g : Fin 16 → EReal) (e : Fin 16) :
    Ideal.div ((if g e = top g then 1 else 0) + (if rest g e = top (rest g) then 1 else 0) * second g) (1 + second g) = weight g e := by
  have hs := second_nonneg g
  unfold weight
  simp only [div_eq hs]
  rw [EReal.right_distrib_of_nonneg (by split <;> simp) (mul_nonneg (by split <;> simp) hs)]
  congr 1
  · split <;> simp
  · split <;> simp

/-! ## The places of the tokens at one expert -/

section Rank

variable {n : ℕ} (p : Fin n → Prop) [DecidablePred p]

/-- How many tokens before `i` were chosen. -/
def rank (i : Fin n) : ℕ := (Finset.univ.filter fun j => j < i ∧ p j).card

theorem rank_lt {i j : Fin n} (hi : p i) (h : i < j) : rank p i < rank p j := by
  refine Finset.card_lt_card ⟨fun k hk => ?_, fun hs => ?_⟩
  · simp only [Finset.mem_filter, Finset.mem_univ, true_and] at hk ⊢
    exact ⟨hk.1.trans h, hk.2⟩
  · have := hs (show i ∈ _ by simp [h, hi])
    simp at this

/-- Two chosen tokens have different places. -/
theorem rank_inj {i j : Fin n} (hi : p i) (hj : p j) (h : rank p i = rank p j) : i = j := by
  rcases lt_trichotomy i j with hl | hl | hl
  · exact absurd h (rank_lt p hi hl).ne
  · exact hl
  · exact absurd h (rank_lt p hj hl).ne'

/-- The sum over the tokens at place `c` is the one token's value. -/
theorem sum_at (h : Fin n → EReal) {i : Fin n} (hi : p i) :
    (∑ j, (if p j ∧ rank p j = rank p i then (1 : EReal) else 0) * h j) = h i := by
  rw [Finset.sum_eq_single i]
  · rw [if_pos ⟨hi, rfl⟩, one_mul]
  · intro j _ hj
    rw [if_neg fun hh => hj (rank_inj p hh.1 hi hh.2), zero_mul]
  · intro hh
    exact absurd (Finset.mem_univ i) hh

/-- Sending the chosen tokens to their places, applying `y` there to what has come and bringing the results back gives each chosen token
    with a place below the capacity its own `y`, and every other token nothing. -/
theorem dispatch {C m : ℕ} (X : Fin n → Fin m → EReal) (y : (Fin m → EReal) → EReal) (i : Fin n) :
    (∑ c : Fin C, (if p i ∧ rank p i = c.val then (1 : EReal) else 0)
        * y (fun k => ∑ j, (if p j ∧ rank p j = c.val then (1 : EReal) else 0) * X j k))
      = if p i ∧ rank p i < C then y (X i) else 0 := by
  by_cases hi : p i ∧ rank p i < C
  · rw [if_pos hi, Finset.sum_eq_single (⟨rank p i, hi.2⟩ : Fin C)]
    · rw [if_pos ⟨hi.1, rfl⟩, one_mul]
      exact congrArg y (funext fun k => sum_at p (fun j => X j k) hi.1)
    · intro c _ hc
      rw [if_neg fun hh : p i ∧ rank p i = c.val => hc (Fin.ext hh.2.symm), zero_mul]
    · intro hh
      exact absurd (Finset.mem_univ _) hh
  · rw [if_neg hi]
    refine Finset.sum_eq_zero fun c _ => ?_
    rw [if_neg fun hh : p i ∧ rank p i = c.val => hi ⟨hh.1, lt_of_eq_of_lt hh.2 c.isLt⟩, zero_mul]

end Rank

/-! ## Counting in words -/

/-- A small word read signed. -/
theorem toInt_nat {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

/-- A choice by the comparison of two small words. -/
theorem select_lt {x i : ℕ} (hx : x < 2 ^ 31) (hi : i < 2 ^ 31) (a b : EReal) :
    Scalar.select (IntOp.cmpi .slt (BitVec.ofNat 32 x) (BitVec.ofNat 32 i)) a b = if x < i then a else b := by
  show (if BitVec.ofBool ((BitVec.ofNat 32 x).slt (BitVec.ofNat 32 i)) = 1#1 then a else b) = _
  have e : (BitVec.ofNat 32 x).slt (BitVec.ofNat 32 i) = decide (x < i) := by
    unfold BitVec.slt
    rw [toInt_nat hx, toInt_nat hi]
    exact decide_eq_decide.mpr Int.ofNat_lt
  rw [e]
  by_cases h : x < i
  · rw [if_pos h, decide_eq_true h]; rfl
  · rw [if_neg h, decide_eq_false h]; rfl

/-- Counting the chosen tokens up to and including `i` gives its place and itself. -/
theorem count_upto {n : ℕ} (p : Fin n → Prop) [DecidablePred p] (q : ℕ → ℕ) (hq : ∀ j : Fin n, q j.val = if p j then 1 else 0) (i : Fin n) :
    ((List.range (i.val + 1)).map q).sum = rank p i + if p i then 1 else 0 := by
  rw [List.sum_range_succ, hq]
  refine congrArg (· + _) ?_
  unfold rank
  rw [Finset.card_filter]
  have e : ∀ x : Fin n, (if x < i ∧ p x then 1 else 0) = (fun j : ℕ => if j < i.val then q j else 0) x.val := fun x => by
    show _ = if x.val < i.val then q x.val else 0
    rw [hq]
    by_cases h1 : x < i
    · rw [if_pos (show x.val < i.val from h1)]
      by_cases h2 : p x
      · rw [if_pos ⟨h1, h2⟩, if_pos h2]
      · rw [if_neg fun h => h2 h.2, if_neg h2]
    · rw [if_neg (show ¬x.val < i.val from h1), if_neg fun h => h1 h.1]
  have hi := i.isLt
  rw [Finset.sum_congr rfl fun x _ => e x, Fin.sum_univ_eq_sum_range (fun j : ℕ => if j < i.val then q j else 0) n, ← Finset.sum_filter,
    show (Finset.range n).filter (· < i.val) = Finset.range i.val from Finset.ext fun j => by
      rw [Finset.mem_filter, Finset.mem_range, Finset.mem_range]; omega]
  generalize i.val = k
  induction k with
  | zero => rfl
  | succ k ih => rw [List.sum_range_succ, Finset.sum_range_succ, ih]

/-- No place is beyond the tokens. -/
theorem rank_le {n : ℕ} (p : Fin n → Prop) [DecidablePred p] (i : Fin n) : rank p i ≤ n :=
  (Finset.card_le_univ _).trans (Fintype.card_fin n).le

/-! ## One expert, and all of them -/

/-- The expert's two layers applied to one token. -/
def ffn (w1 : Fin 1024 → Fin 4096 → EReal) (w2 : Fin 4096 → Fin 1024 → EReal) (d : Fin 1024) (x : Fin 1024 → EReal) : EReal :=
  ∑ f, max (∑ k, x k * w1 k f) 0 * w2 f d

/-- A place in one of four chunks of 1024. -/
def part (q : Fin 4) (f : Fin 1024) : Fin 4096 := ⟨1024 * q.val + f.val, by omega⟩

/-- A sum over 4096 is the sum of its four chunks. -/
theorem sum_parts (g : Fin 4096 → EReal) :
    ∑ f, g f = ∑ f, g (part 0 f) + ∑ f, g (part 1 f) + ∑ f, g (part 2 f) + ∑ f, g (part 3 f) := by
  refine ((Fin.sum_mul_add_congr (S := 4) (n := 1024) (F := fun s k => g (part s k)) fun s k hl =>
    congrArg g (Fin.ext (congrArg (· + k.val) (Nat.mul_comm 1024 s.val)))).symm).trans ?_
  exact Fin.sum_univ_four _

/-- The gates of all tokens. -/
def gates (Xg : Fin 2048 → Fin 1024 → EReal) (Rg : Fin 1024 → Fin 16 → EReal) (i : Fin 2048) (e : Fin 16) : EReal := ∑ k, Xg i k * Rg k e

/-- The weight of expert `e` at token `i`, dropped where the expert's capacity is used up. -/
def capped (G : Fin 2048 → Fin 16 → EReal) (i : Fin 2048) (e : Fin 16) : EReal :=
  if rank (fun j => 0 < weight (G j) e) i < 320 then weight (G i) e else 0

/-- What expert `e` adds to token `i`. -/
def term (X : Fin 2048 → Fin 1024 → EReal) (G : Fin 2048 → Fin 16 → EReal) (w1 : Fin 16 → Fin 1024 → Fin 4096 → EReal)
    (w2 : Fin 16 → Fin 4096 → Fin 1024 → EReal) (e : Fin 16) (i : Fin 2048) (d : Fin 1024) : EReal :=
  ffn (w1 e) (w2 e) d (X i) * capped G i e

/-- The weight times what comes back to the token is the expert's term. -/
theorem weight_mul (X : Fin 2048 → Fin 1024 → EReal) (G : Fin 2048 → Fin 16 → EReal) (w1 : Fin 16 → Fin 1024 → Fin 4096 → EReal)
    (w2 : Fin 16 → Fin 4096 → Fin 1024 → EReal) (e : Fin 16) (i : Fin 2048) (d : Fin 1024) :
    weight (G i) e * (if 0 < weight (G i) e ∧ rank (fun j => 0 < weight (G j) e) i < 320 then ffn (w1 e) (w2 e) d (X i) else 0)
      = term X G w1 w2 e i d := by
  unfold term capped
  by_cases hr : rank (fun j => 0 < weight (G j) e) i < 320
  · rw [if_pos hr]
    by_cases hw : 0 < weight (G i) e
    · rw [if_pos ⟨hw, hr⟩, mul_comm]
    · rw [le_antisymm (not_lt.mp hw) (weight_nonneg _ _), zero_mul, mul_zero]
  · rw [if_neg hr, if_neg fun h => hr h.2, mul_zero, mul_zero]

end Cert.Experts

end
end
-- ==== Proof.Value.Kernel.lean ====
module

public import proofs.«01_k».proof.Proof.Values
public import proofs.«01_k».proof.Proof.Value.Math
public import Idealize.ShloMosaic.Lib.Pointwise
public import Idealize.ShloMosaic.Lib.KernelVsHost

@[expose] public section

noncomputable section

namespace Cert.KernelIdeal.Moe

open Cert.KernelIdeal Cert.KernelIdeal.Gen Cert.Experts
open Idealize.ShloMosaic
open Idealize.ShloMosaic.TcCoe

/-! ## Indicators -/

/-- A widened truth value as a number. -/
theorem bit_val (p : Prop) [Decidable p] :
    (FloatOps.sitofp (F := Ideal) .f32 (BitVec.setWidth 32 (BitVec.ofBool (decide p))) : EReal) = if p then 1 else 0 := by
  by_cases h : p
  · rw [if_pos h, decide_eq_true h]
    have e : (BitVec.setWidth 32 (BitVec.ofBool true)).toInt = 1 := by decide
    show (((BitVec.setWidth 32 (BitVec.ofBool true)).toInt : ℝ) : EReal) = 1
    rw [e]
    norm_num
  · rw [if_neg h, decide_eq_false h]
    have e : (BitVec.setWidth 32 (BitVec.ofBool false)).toInt = 0 := by decide
    show (((BitVec.setWidth 32 (BitVec.ofBool false)).toInt : ℝ) : EReal) = 0
    rw [e]
    norm_num

/-- A small word as a number. -/
theorem sitofp_nat {n : ℕ} (h : n < 2 ^ 31) : (FloatOps.sitofp (F := Ideal) .f32 (BitVec.ofNat 32 n) : EReal) = ((n : ℝ) : EReal) := by
  have e : (BitVec.ofNat 32 n).toInt = n := toInt_nat h
  show (((BitVec.ofNat 32 n).toInt : ℝ) : EReal) = _
  rw [e]
  norm_num

theorem decide_true_sel {p : Prop} [Decidable p] (h : p) (a b : EReal) : Scalar.select (BitVec.ofBool (decide p)) a b = a := by
  rw [decide_eq_true h]; rfl

theorem decide_false_sel {p : Prop} [Decidable p] (h : ¬p) (a b : EReal) : Scalar.select (BitVec.ofBool (decide p)) a b = b := by
  rw [decide_eq_false h]; rfl

/-- A choice by the device's place in its pair. -/
theorem side_sel (c : Dev nD) (a b w : EReal) (ha : c.val % 2 = 0 → a = w) (hb : c.val % 2 = 1 → b = w) :
    Scalar.select (Scalar.cmpi .eq (myZ c) 0#32) a b = w := by
  have e : Scalar.cmpi .eq (myZ c) 0#32 = BitVec.ofBool (decide (c.val % 2 = 0)) := by clear ha hb; revert c; decide
  rw [e]
  by_cases h : c.val % 2 = 0
  · rw [decide_true_sel h]; exact ha h
  · rw [decide_false_sel h]; exact hb (by omega)

/-- An indicator is positive where it is one. -/
theorem ind_pos (p : Prop) [Decidable p] : ((0 : EReal) < if p then 1 else 0) ↔ p := by
  by_cases h : p <;> simp [h]

/-- The number that marks a token not chosen. -/
theorem bits_neg_one : Ideal.ofBits .f32 0xBF800000#32 = ((-1 : ℝ) : EReal) := by
  simp [Ideal.ofBits, Ideal.ieee, -EReal.coe_mul, -EReal.coe_neg]; norm_num

/-- The place of a token is the sum of the indicators of the chosen ones before it. -/
theorem rank_sum {n : ℕ} (p : Fin n → Prop) [DecidablePred p] (i : Fin n) :
    ((rank p i : ℝ) : EReal) = ∑ x, if x.val < i.val then (if p x then (1 : EReal) else 0) else 0 := by
  have h : (∑ x, if x.val < i.val then (if p x then (1 : EReal) else 0) else 0) = ∑ x, if x < i ∧ p x then (1 : EReal) else 0 :=
    Finset.sum_congr rfl fun x _ => by
      by_cases h1 : x < i
      · by_cases h2 : p x
        · rw [if_pos (show x.val < i.val from h1), if_pos h2, if_pos ⟨h1, h2⟩]
        · rw [if_pos (show x.val < i.val from h1), if_neg h2, if_neg fun q => h2 q.2]
      · rw [if_neg (show ¬x.val < i.val from h1), if_neg fun q => h1 q.1]
  rw [h, ← Finset.sum_filter, Finset.sum_const, nsmul_one]
  rfl

variable (a b : Vec Ideal S1x1024x8 .f32) (X : Vec Ideal S2048x1024 .f32)

set_option maxRecDepth 16384

section Gates

variable {G : Fin 2048 → Fin 16 → EReal} (hG : ∀ i e, k0_pay5 a b X (ix2 i e) = G i e)
include hG

theorem pay6_at (i : Fin 2048) (o : Fin 1) : k0_pay6 a b X (ix2 i o) = top (G i) := by
  pointwise [k0_pay6, hG]
  rfl

theorem pay7_at (i : Fin 2048) (e : Fin 16) : k0_pay7 a b X (ix2 i e) = BitVec.ofBool (decide (G i e = top (G i))) := by
  pointwise [k0_pay7, pay6_at a b X hG, hG]
  simp only [top_le_iff]

theorem pay8_at (i : Fin 2048) (e : Fin 16) : k0_pay8 a b X (ix2 i e) = rest (G i) e := by
  pointwise [k0_pay8, pay7_at a b X hG, hG]
  unfold rest
  by_cases h : G i e = top (G i)
  · rw [if_pos h]
  · rw [if_neg h]

theorem pay9_at (i : Fin 2048) : k0_pay9 a b X (ix1 i) = top (rest (G i)) := by
  pointwise [k0_pay9, pay8_at a b X hG]
  rfl

theorem pay10_at (c : Dev nD) (i : Fin 2048) (e : Fin 8) :
    k0_pay10 (myZ c) (k0_pay6 a b X) (k0_pay7 a b X) (k0_pay8 a b X) (k0_pay9 a b X) (ix2 i e)
      = weight (G i) ⟨8 * (c.val % 2) + e.val, by omega⟩ := by
  pointwise [k0_pay10, pay6_at a b X hG, pay7_at a b X hG, pay8_at a b X hG, pay9_at a b X hG]
  simp only [bit_val, top_le_iff]
  exact side_sel c _ _ _ (fun h => (weight_eq (G i) _).trans (congrArg (weight (G i)) (Fin.ext (by simp only; omega))))
    (fun h => (weight_eq (G i) _).trans (congrArg (weight (G i)) (Fin.ext (by simp only; omega))))

theorem pay12_at (c : Dev nD) (i : Fin 2048) (e : Fin 8) :
    k0_pay12 (myZ c) (k0_pay6 a b X) (k0_pay7 a b X) (k0_pay8 a b X) (k0_pay9 a b X) (ix2 i e)
      = if 0 < weight (G i) ⟨8 * (c.val % 2) + e.val, by omega⟩
        then ((rank (fun j => 0 < weight (G j) ⟨8 * (c.val % 2) + e.val, by omega⟩) i : ℝ) : EReal) else ((-1 : ℝ) : EReal) := by
  pointwise [k0_pay12, pay10_at a b X hG]
  simp only [bit_val, ind_pos, bits_neg_one]
  congr 1
  rw [rank_sum]
  exact Finset.sum_congr rfl fun x _ => (select_lt (by omega) (by omega) _ _).trans rfl

end Gates

theorem pay14_at (rk : Vec Ideal S2048x1 .f32) (i : Fin 2048) (c : Fin 320) :
    k0_pay14 k0_pay13 rk (ix2 i c) = if rk (ix2 i 0) = ((c.val : ℝ) : EReal) then 1 else 0 := by
  pointwise [k0_pay13, k0_pay14]
  rw [sitofp_nat (by omega)]

theorem pay15_at (rk : Vec Ideal S2048x1 .f32) (c : Fin 320) (d : Fin 1024) :
    k0_pay15 k0_pay13 rk X (ix2 c d) = ∑ j, (if rk (ix2 j 0) = ((c.val : ℝ) : EReal) then 1 else 0) * X (ix2 j d) := by
  pointwise [k0_pay15, pay14_at]

/-- What one chunk of an expert adds at place `c`. -/
def piece (x : Fin 1024 → EReal) (p : Vec Ideal S1x1024x1024 .f32 × Vec Ideal S1x1024x1024 .f32) (d : Fin 1024) : EReal :=
  ∑ f, max (∑ k, x k * p.1 (ix3 0 k f)) 0 * p.2 (ix3 0 f d)

theorem chunks3_at (xg : FVec Ideal S320x1024 .f32) (p : Fin 4 → Vec Ideal S1x1024x1024 .f32 × Vec Ideal S1x1024x1024 .f32) (c : Fin 320) (d : Fin 1024) :
    chunks3 xg p (ix2 c d) = piece (fun k => xg (ix2 c k)) (p 0) d + piece (fun k => xg (ix2 c k)) (p 1) d + piece (fun k => xg (ix2 c k)) (p 2) d := by
  pointwise [chunks3, k0_pay16, k0_pay17]
  rfl

/-- The four chunks together. -/
def pieces (x : Fin 1024 → EReal) (p : Fin 4 → Vec Ideal S1x1024x1024 .f32 × Vec Ideal S1x1024x1024 .f32) (d : Fin 1024) : EReal :=
  piece x (p 0) d + piece x (p 1) d + piece x (p 2) d + piece x (p 3) d

/-- What an expert adds to token `i`. -/
def share (rk : Vec Ideal S2048x1 .f32) (xf : Vec Ideal S2048x1024 .f32) (p : Fin 4 → Vec Ideal S1x1024x1024 .f32 × Vec Ideal S1x1024x1024 .f32)
    (wc : Vec Ideal S2048x1 .f32) (i : Fin 2048) (d : Fin 1024) : EReal :=
  wc (ix2 i 0) * ∑ c : Fin 320, (if rk (ix2 i 0) = ((c.val : ℝ) : EReal) then 1 else 0)
    * pieces (fun k => ∑ j, (if rk (ix2 j 0) = ((c.val : ℝ) : EReal) then 1 else 0) * xf (ix2 j k)) p d

theorem first_at (rk : Vec Ideal S2048x1 .f32) (xf : Vec Ideal S2048x1024 .f32) (p : Fin 4 → Vec Ideal S1x1024x1024 .f32 × Vec Ideal S1x1024x1024 .f32)
    (wc : Vec Ideal S2048x1 .f32) (i : Fin 2048) (d : Fin 1024) : first rk xf p wc (ix2 i d) = share rk xf p wc i d := by
  pointwise [first, k0_pay20, k0_pay19, pay14_at, chunks3_at, pay15_at]
  rfl

theorem later_at (rk : Vec Ideal S2048x1 .f32) (xf : Vec Ideal S2048x1024 .f32) (p : Fin 4 → Vec Ideal S1x1024x1024 .f32 × Vec Ideal S1x1024x1024 .f32)
    (wc : Vec Ideal S2048x1 .f32) (o : Vec Ideal S2048x1024 .f32) (i : Fin 2048) (d : Fin 1024) :
    later rk xf p wc o (ix2 i d) = o (ix2 i d) + share rk xf p wc i d := by
  pointwise [later, k0_pay28, pay14_at, chunks3_at, pay15_at]
  rfl

/-! ## The devices' blocks of the whole arrays -/

section Blocks

variable {m : (ℓ : Loc nD τ sig) → Buf (Elt Ideal) ℓ}
variable {Xg : Fin 2048 → Fin 1024 → EReal} {Rg : Fin 1024 → Fin 16 → EReal} {w1 : Fin 16 → Fin 1024 → Fin 4096 → EReal}
  {w2 : Fin 16 → Fin 4096 → Fin 1024 → EReal}

/-- Row `i` of the device's half, among all rows. -/
def row (c : Dev nD) (i : Fin 1024) : Fin 2048 := ⟨1024 * (c.val % 2) + i.val, by omega⟩
/-- Expert `e` of the device's half, among all experts. -/
def expertAt (c : Dev nD) (e : Fin 8) : Fin 16 := ⟨8 * (c.val % 2) + e.val, by omega⟩

theorem lo_mod (c : Dev nD) : (lo c).val % 2 = 0 := by revert c; decide
theorem hi_mod (c : Dev nD) : (hi c).val % 2 = 1 := by revert c; decide

/-- The gathered tokens are all tokens. -/
theorem XF_at (hX : ∀ c i k, xin m c (ix2 i k) = Xg (row c i) k) (c : Dev nD) (i : Fin 2048) (k : Fin 1024) : XF m c (ix2 i k) = Xg i k := by
  show (if i.val < 1024 then xin m (lo c) (ix2 ⟨i.val % 1024, _⟩ k) else xin m (hi c) (ix2 ⟨i.val % 1024, _⟩ k)) = _
  rw [hX, hX]
  split
  · exact congrArg (Xg · k) (Fin.ext (show 1024 * ((lo c).val % 2) + i.val % 1024 = i.val by rw [lo_mod]; omega))
  · exact congrArg (Xg · k) (Fin.ext (show 1024 * ((hi c).val % 2) + i.val % 1024 = i.val by rw [hi_mod]; omega))

/-- The gathered halves of the router are the router's columns, -/
theorem rhalf_at (hR : ∀ c k e, rin m c (ix2 k e) = Rg k (expertAt c e)) (c d : Dev nD) (hl : lo d = lo c) (hh : hi d = hi c) (h : Fin 2)
    (hd : h.val = d.val % 2) (k : Fin 1024) (e : Fin 8) : rhalf m c h (ix3 0 k e) = Rg k (expertAt d e) := by
  refine Eq.trans (RH_apply m c d hl hh _ (show h.val + 1 * 0 = d.val % 2 by omega)) (Eq.trans (congrArg (rin m d) (funext fun a => Fin.ext ?_)) (hR d k e))
  match a with
  | ⟨0, _⟩ => show 0 + 1 * k.val = k.val; omega
  | ⟨1, _⟩ => show 0 + 1 * e.val = e.val; omega

/-- so the gates, -/
theorem pay5_at (hX : ∀ c i k, xin m c (ix2 i k) = Xg (row c i) k) (hR : ∀ c k e, rin m c (ix2 k e) = Rg k (expertAt c e)) (c : Dev nD)
    (i : Fin 2048) (e : Fin 16) : k0_pay5 (rhalf m c 0) (rhalf m c 1) (XF m c) (ix2 i e) = gates Xg Rg i e := by
  pointwise [k0_pay5]
  refine Finset.sum_congr rfl fun k _ => ?_
  rw [XF_at hX]
  by_cases h : e.val < 8
  · rw [dif_pos h, rhalf_at hR c (lo c) (by revert c; decide) (by revert c; decide) 0 (lo_mod c).symm]
    exact congrArg (fun x => Xg i k * Rg k x) (Fin.ext (show 8 * ((lo c).val % 2) + e.val = e.val by rw [lo_mod]; omega))
  · rw [dif_neg h, rhalf_at hR c (hi c) (by revert c; decide) (by revert c; decide) 1 (hi_mod c).symm]
    exact congrArg (fun x => Xg i k * Rg k x) (Fin.ext (show 8 * ((hi c).val % 2) + (e.val - 8) = e.val by rw [hi_mod]; omega))

/-- the weights -/
theorem WL_at (hX : ∀ c i k, xin m c (ix2 i k) = Xg (row c i) k) (hR : ∀ c k e, rin m c (ix2 k e) = Rg k (expertAt c e)) (c : Dev nD)
    (i : Fin 2048) (e : Fin 8) : WL m c (ix2 i e) = weight (gates Xg Rg i) (expertAt c e) := by
  pointwise [WL, k0_pay11, pay10_at _ _ _ (pay5_at hX hR c)]
  rfl

/-- and the places. -/
theorem RK_at (hX : ∀ c i k, xin m c (ix2 i k) = Xg (row c i) k) (hR : ∀ c k e, rin m c (ix2 k e) = Rg k (expertAt c e)) (c : Dev nD)
    (i : Fin 2048) (e : Fin 8) : RK m c (ix2 i e) = if 0 < weight (gates Xg Rg i) (expertAt c e)
      then ((rank (fun j => 0 < weight (gates Xg Rg j) (expertAt c e)) i : ℝ) : EReal) else ((-1 : ℝ) : EReal) :=
  pay12_at _ _ _ (pay5_at hX hR c) c i e

theorem colOf_at (e : Fin 8) (Y : Vec Ideal S2048x8 .f32) (i : Fin 2048) : colOf e Y (ix2 i 0) = Y (ix2 i e) := by
  refine congrArg Y (funext fun a => Fin.ext ?_)
  match a with
  | ⟨0, _⟩ => show 0 + 1 * i.val = i.val; omega
  | ⟨1, _⟩ => show e.val + 1 * 0 = e.val; omega

/-- The column of places marks a place exactly where a chosen token has it. -/
theorem RK_eq_iff (hX : ∀ c i k, xin m c (ix2 i k) = Xg (row c i) k) (hR : ∀ c k e, rin m c (ix2 k e) = Rg k (expertAt c e)) (c : Dev nD)
    (e : Fin 8) (i : Fin 2048) (n : ℕ) : colOf e (RK m c) (ix2 i 0) = ((n : ℝ) : EReal)
      ↔ 0 < weight (gates Xg Rg i) (expertAt c e) ∧ rank (fun j => 0 < weight (gates Xg Rg j) (expertAt c e)) i = n := by
  rw [colOf_at, RK_at hX hR]
  by_cases h : 0 < weight (gates Xg Rg i) (expertAt c e)
  · rw [if_pos h, EReal.coe_eq_coe_iff, Nat.cast_inj]
    exact ⟨fun q => ⟨h, q⟩, fun q => q.2⟩
  · rw [if_neg h, EReal.coe_eq_coe_iff]
    refine ⟨fun q => absurd q ?_, fun q => absurd q.1 h⟩
    have : (0 : ℝ) ≤ n := Nat.cast_nonneg n
    linarith

/-- Four chunks are the whole expert. -/
theorem pieces_eq (h1 : ∀ c e k f, w1in m c (ix3 e k f) = w1 (expertAt c e) k f) (h2 : ∀ c e f d, w2in m c (ix3 e f d) = w2 (expertAt c e) f d)
    (c : Dev nD) (e : Fin 8) (x : Fin 1024 → EReal) (d : Fin 1024) :
    pieces x (chunkOf m c e) d = ffn (w1 (expertAt c e)) (w2 (expertAt c e)) d x := by
  have hp : ∀ q, piece x (chunkOf m c e q) d
      = ∑ f, max (∑ k, x k * w1 (expertAt c e) k (part q f)) 0 * w2 (expertAt c e) (part q f) d := fun q => by
    unfold piece
    refine Finset.sum_congr rfl fun f _ => ?_
    have e1 : ∀ k, (chunkOf m c e q).1 (ix3 0 k f) = w1 (expertAt c e) k (part q f) := fun k => by
      refine Eq.trans (congrArg (w1in m c) (funext fun a => Fin.ext ?_)) (h1 c e k (part q f))
      match a with
      | ⟨0, _⟩ => show e.val + 1 * 0 = e.val; omega
      | ⟨1, _⟩ => show 0 + 1 * k.val = k.val; omega
      | ⟨2, _⟩ => show 1024 * q.val + 1 * f.val = 1024 * q.val + f.val; omega
    have e2 : (chunkOf m c e q).2 (ix3 0 f d) = w2 (expertAt c e) (part q f) d := by
      refine Eq.trans (congrArg (w2in m c) (funext fun a => Fin.ext ?_)) (h2 c e (part q f) d)
      match a with
      | ⟨0, _⟩ => show e.val + 1 * 0 = e.val; omega
      | ⟨1, _⟩ => show 1024 * q.val + 1 * f.val = 1024 * q.val + f.val; omega
      | ⟨2, _⟩ => show 0 + 1 * d.val = d.val; omega
    rw [e2]
    simp only [e1]
  unfold pieces ffn
  rw [hp, hp, hp, hp, sum_parts]

/-- What an expert adds to a token is the expert's term. -/
theorem share_term (hX : ∀ c i k, xin m c (ix2 i k) = Xg (row c i) k) (hR : ∀ c k e, rin m c (ix2 k e) = Rg k (expertAt c e))
    (h1 : ∀ c e k f, w1in m c (ix3 e k f) = w1 (expertAt c e) k f) (h2 : ∀ c e f d, w2in m c (ix3 e f d) = w2 (expertAt c e) f d)
    (c : Dev nD) (e : Fin 8) (i : Fin 2048) (d : Fin 1024) :
    share (colOf e (RK m c)) (XF m c) (chunkOf m c e) (colOf e (WL m c)) i d = term Xg (gates Xg Rg) w1 w2 (expertAt c e) i d := by
  unfold share
  rw [colOf_at, WL_at hX hR, ← weight_mul]
  simp only [RK_eq_iff hX hR, pieces_eq h1 h2, XF_at hX]
  congr 1
  exact dispatch (C := 320) (fun j => 0 < weight (gates Xg Rg j) (expertAt c e)) Xg (ffn (w1 (expertAt c e)) (w2 (expertAt c e)) d) i

/-- The accumulator after expert `n` is the sum of the terms so far. -/
theorem ACC_at (hX : ∀ c i k, xin m c (ix2 i k) = Xg (row c i) k) (hR : ∀ c k e, rin m c (ix2 k e) = Rg k (expertAt c e))
    (h1 : ∀ c e k f, w1in m c (ix3 e k f) = w1 (expertAt c e) k f) (h2 : ∀ c e f d, w2in m c (ix3 e f d) = w2 (expertAt c e) f d)
    (c : Dev nD) (n : ℕ) (i : Fin 2048) (d : Fin 1024) :
    ACC m c n (ix2 i d) = ∑ e ∈ Finset.range (n + 1), term Xg (gates Xg Rg) w1 w2 (expertAt c (Fin.ofNat 8 e)) i d := by
  induction n with
  | zero =>
    rw [Finset.sum_range_one]
    exact (first_at _ _ _ _ i d).trans (share_term hX hR h1 h2 c 0 i d)
  | succ n ih =>
    rw [Finset.sum_range_succ, ← ih]
    refine (later_at _ _ _ _ _ i d).trans (congrArg (ACC m c n (ix2 i d) + ·) ?_)
    exact share_term hX hR h1 h2 c (Fin.ofNat 8 (n + 1)) i d

/-- All of the device's terms. -/
theorem ACC_all (hX : ∀ c i k, xin m c (ix2 i k) = Xg (row c i) k) (hR : ∀ c k e, rin m c (ix2 k e) = Rg k (expertAt c e))
    (h1 : ∀ c e k f, w1in m c (ix3 e k f) = w1 (expertAt c e) k f) (h2 : ∀ c e f d, w2in m c (ix3 e f d) = w2 (expertAt c e) f d)
    (c : Dev nD) (i : Fin 2048) (d : Fin 1024) :
    ACC m c 7 (ix2 i d) = ∑ e : Fin 8, term Xg (gates Xg Rg) w1 w2 (expertAt c e) i d := by
  rw [ACC_at hX hR h1 h2, ← Fin.sum_univ_eq_sum_range (fun e => term Xg (gates Xg Rg) w1 w2 (expertAt c (Fin.ofNat 8 e)) i d) 8]
  exact Finset.sum_congr rfl fun e _ => congrArg (fun z => term Xg (gates Xg Rg) w1 w2 (expertAt c z) i d) (Fin.ext (Nat.mod_eq_of_lt e.isLt))

/-- A row of a block of rows. -/
theorem rows_emb (off : Fin 2 → ℕ) (n : ℕ) (h : off = ![n, 0]) (inb : ∀ a, off a + S1024x1024.size a ≤ S2048x1024.size a) (i : Fin 1024) (d : Fin 1024)
    (r : Fin 2048) (hr : r.val = n + i.val) : (Rect.unit (s := S2048x1024) off S1024x1024.size inb).emb (ix2 i d) = ix2 r d := by
  subst h
  funext a
  refine Fin.ext ?_
  match a with
  | ⟨0, _⟩ => show n + 1 * i.val = r.val; omega
  | ⟨1, _⟩ => show 0 + 1 * d.val = d.val; omega

/-- The device's block of the result holds the sum of all sixteen terms. -/
theorem OUT_at (hX : ∀ c i k, xin m c (ix2 i k) = Xg (row c i) k) (hR : ∀ c k e, rin m c (ix2 k e) = Rg k (expertAt c e))
    (h1 : ∀ c e k f, w1in m c (ix3 e k f) = w1 (expertAt c e) k f) (h2 : ∀ c e f d, w2in m c (ix3 e f d) = w2 (expertAt c e) f d)
    (c : Dev nD) (i : Fin 1024) (d : Fin 1024) :
    OUT m c (ix2 i d) = ∑ e : Fin 16, term Xg (gates Xg Rg) w1 w2 e (row c i) d := by
  have ha : arrived m c (ix2 i d) = ∑ e : Fin 8, term Xg (gates Xg Rg) w1 w2 (expertAt (peer c) e) (row c i) d := by
    rw [← ACC_all hX hR h1 h2]
    refine congrArg (ACC m (peer c) 7) (rows_emb (k0_off4 (peer c)) _ ?_ _ i d (row c i) rfl)
    rw [k0_off4_eq, peer_mod]
    rcases Nat.mod_two_eq_zero_or_one c.val with h | h <;> rw [h]
  have ho : accM.view.readAt (Elt Ideal) (accOwn c).toLoadRect (ACC m c 7) (ix2 i d)
      = ∑ e : Fin 8, term Xg (gates Xg Rg) w1 w2 (expertAt c e) (row c i) d := by
    rw [← ACC_all hX hR h1 h2]
    exact congrArg (ACC m c 7) (rows_emb (k0_off3 c) _ (k0_off3_eq c) _ i d (row c i) rfl)
  have hs : OUT m c (ix2 i d) = arrived m c (ix2 i d) + accM.view.readAt (Elt Ideal) (accOwn c).toLoadRect (ACC m c 7) (ix2 i d) := by
    unfold OUT
    generalize arrived m c = A
    generalize accM.view.readAt (Elt Ideal) (accOwn c).toLoadRect (ACC m c 7) = B
    pointwise [k0_pay1]
  rw [hs, ha, ho, Fin.sum_univ_two_halves 8 8 rfl]
  rcases Nat.mod_two_eq_zero_or_one c.val with h | h
  · rw [add_comm]
    refine congrArg₂ (· + ·) (Finset.sum_congr rfl fun e _ => ?_) (Finset.sum_congr rfl fun e _ => ?_)
    · exact congrArg (fun z => term Xg (gates Xg Rg) w1 w2 z (row c i) d) (Fin.ext (show 8 * (c.val % 2) + e.val = e.val by omega))
    · exact congrArg (fun z => term Xg (gates Xg Rg) w1 w2 z (row c i) d)
        (Fin.ext (show 8 * ((peer c).val % 2) + e.val = 8 + e.val by rw [peer_mod]; omega))
  · refine congrArg₂ (· + ·) (Finset.sum_congr rfl fun e _ => ?_) (Finset.sum_congr rfl fun e _ => ?_)
    · exact congrArg (fun z => term Xg (gates Xg Rg) w1 w2 z (row c i) d)
        (Fin.ext (show 8 * ((peer c).val % 2) + e.val = e.val by rw [peer_mod]; omega))
    · exact congrArg (fun z => term Xg (gates Xg Rg) w1 w2 z (row c i) d) (Fin.ext (show 8 * (c.val % 2) + e.val = 8 + e.val by omega))

end Blocks

end Cert.KernelIdeal.Moe

end
end
-- ==== Proof.Value.Reference.lean ====
module

public import proofs.«01_k».proof.Proof.Gen.ReferenceIdeal.Run
public import proofs.«01_k».proof.Proof.Value.Math
public import Idealize.ShloMosaic.Lib.Pointwise
public import Idealize.ShloMosaic.Lib.Routing.OpsOne
public import Idealize.ShloMosaic.Lib.Tactic.CleanTypes

@[expose] public section

noncomputable section

namespace Cert.ReferenceIdeal.Moe

open Cert.ReferenceIdeal Cert.ReferenceIdeal.Gen Cert.ReferenceIdeal.Value Cert.Experts
open Idealize.ShloMosaic
open Idealize.ShloMosaic.TcCoe

set_option maxRecDepth 16384

variable (V : Valuation τ sig (Elt Ideal))

/-- The tokens. -/
def xs (i : Fin 2048) (k : Fin 1024) : EReal := V (Proc.devRef .tc main_arg0) (ix2 i k)
/-- The router. -/
def rs (k : Fin 1024) (e : Fin 16) : EReal := V (Proc.devRef .tc main_arg1) (ix2 k e)

/-- The first weights. -/
def w1s (e : Fin 16) (k : Fin 1024) (f : Fin 4096) : EReal := V (Proc.devRef .tc main_arg2) (ix3 e k f)
/-- The second weights. -/
def w2s (e : Fin 16) (f : Fin 4096) (d : Fin 1024) : EReal := V (Proc.devRef .tc main_arg3) (ix3 e f d)

/-- Sixteen terms. -/
theorem sum16 (f : Fin 16 → EReal) : ∑ e, f e
    = f 0 + f 1 + f 2 + f 3 + f 4 + f 5 + f 6 + f 7 + f 8 + f 9 + f 10 + f 11 + f 12 + f 13 + f 14 + f 15 := by
  rw [Fin.sum_univ_castSucc, Fin.sum_univ_castSucc, Fin.sum_univ_castSucc, Fin.sum_univ_castSucc, Fin.sum_univ_castSucc, Fin.sum_univ_castSucc,
    Fin.sum_univ_castSucc, Fin.sum_univ_castSucc, Fin.sum_univ_eight]
  rfl

/-- The gates. -/
theorem v0_at (i : Fin 2048) (e : Fin 16) : res_main_v0 V (ix2 i e) = gates (xs V) (rs V) i e := by
  unfold res_main_v0 gates xs rs
  clean_types
  pointwise

variable {G : Fin 2048 → Fin 16 → EReal} (hG : ∀ i e, res_main_v0 V (ix2 i e) = G i e)
include hG

theorem v2_at (i : Fin 2048) (o : Fin 1) : res_main_v2 V (ix2 i o) = top (G i) := by
  unfold res_main_v2
  clean_types
  pointwise [hG]
  rfl

theorem v5_at (i : Fin 2048) (e : Fin 16) : res_main_v5 V (ix2 i e) = rest (G i) e := by
  unfold res_main_v5
  clean_types
  pointwise [hG, v2_at V hG]
  rfl

theorem v7_at (i : Fin 2048) (o : Fin 1) : res_main_v7 V (ix2 i o) = top (rest (G i)) := by
  unfold res_main_v7
  clean_types
  pointwise [v5_at V hG]
  rfl

theorem v9_at (i : Fin 2048) (o : Fin 1) : res_main_v9 V (ix2 i o) = second (G i) := by
  unfold res_main_v9
  clean_types
  pointwise [v7_at V hG, v2_at V hG]
  rfl

theorem v23_at (i : Fin 2048) (e : Fin 16) : res_main_v23 V (ix2 i e) = weight (G i) e := by
  unfold res_main_v23
  clean_types
  pointwise [hG, v2_at V hG, v5_at V hG, v7_at V hG, v9_at V hG]
  have h0 : id (constant (F := Ideal) S_ FTy.f32 0#32) ix0 = (0 : EReal) := Ideal.ofBits_zero_f32
  rw [h0]
  rfl

theorem v26_at (i : Fin 2048) (e : Fin 16) : res_main_v26 V (ix2 i e) = BitVec.ofNat 32 (if 0 < weight (G i) e then 1 else 0) := by
  unfold res_main_v26
  clean_types
  pointwise [v23_at V hG]
  by_cases h : 0 < weight (G i) e
  · rw [if_pos h, decide_eq_true h]; rfl
  · rw [if_neg h, decide_eq_false h]; rfl

theorem v31_at (i : Fin 2048) (e : Fin 16) : res_main_v31 V (ix2 i e) = capped G i e := by
  unfold res_main_v31
  clean_types
  pointwise [v23_at V hG, v26_at V hG]
  have h0 : id (constant (F := Ideal) S_ FTy.f32 0#32) ix0 = (0 : EReal) := Ideal.ofBits_zero_f32
  have hc : Host.reduceWindow IntOp.addi ![2048, 1] ![1, 1] ![2047, 0] ![0, 0] (res_main_v26 V) (broadcastInDim S_ ![] bcast_S_S_ (constantI S_ 32 0#32))
      reduceWindows_S2048x16_S2048x16_w2048s1p2047_0_w1s1p0_0 h_S_ (ix2 i e) = _ :=
    Routing.cumsum_rows (R := 2048) (Rm1 := 2047) (C := 16) rfl (res_main_v26 V)
      (fun j c => if h : j < 2048 ∧ c < 16 then (if 0 < weight (G ⟨j, h.1⟩) ⟨c, h.2⟩ then 1 else 0) else 0)
      (fun j c => by
        beta_reduce
        rw [dif_pos (⟨j.isLt, c.isLt⟩ : j.val < 2048 ∧ c.val < 16)]
        exact v26_at V hG j c) _ rfl _ _ i e
  rw [hc, count_upto (fun j => 0 < weight (G j) e) _ (fun j => by
        beta_reduce
        rw [dif_pos (⟨j.isLt, e.isLt⟩ : j.val < 2048 ∧ e.val < 16)]), h0, BitVec.ofNat_add]
  have hs : ∀ x y : BitVec 32, IntOp.subi (x + y) y = x := fun x y => BitVec.add_sub_cancel x y
  rw [hs]
  have hr := rank_le (fun j => 0 < weight (G j) e) i
  exact select_lt (by omega) (by omega) _ _

omit hG

/-- The result. -/
def out (V : Valuation τ sig (Elt Ideal)) : Vec Ideal S2048x1024 .f32 := val5 V (Proc.devRef .tc main_v224)

theorem out_at (i : Fin 2048) (d : Fin 1024) :
    out V (ix2 i d) = ∑ e, term (xs V) (gates (xs V) (rs V)) (w1s V) (w2s V) e i d := by
  unfold out
  rw [val5_main_v224]
  unfold res_main_v176 res_main_v104
  clean_types
  pointwise [v31_at V (v0_at V)]
  rw [sum16]
  rfl

end Cert.ReferenceIdeal.Moe

end
end
-- ==== Proof.Value.Equal.lean ====
module

public import proofs.«01_k».proof.Defs
public import proofs.«01_k».proof.Proof.Launch
public import proofs.«01_k».proof.Proof.Value.Kernel
public import proofs.«01_k».proof.Proof.Value.Reference
public import Idealize.ShloMosaic.Lib.LayoutAt

@[expose] public section

noncomputable section

namespace Cert.Equal

open Idealize.ShloMosaic Idealize.SL.Sem Cert.Experts
open Idealize.ShloMosaic.TcCoe

abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- The reference's array at `r`. -/
abbrev whole (m' : RMem) (r) := m' (((0 : Dev Cert.ReferenceIdeal.nD).tc : Thread Cert.ReferenceIdeal.nD Cert.ReferenceIdeal.τ).loc r)

/-- Each device's arguments are its blocks of the reference's arguments. -/
def Blocks (m : KMem) (m' : RMem) : Prop := ∀ c : Dev Cert.KernelIdeal.nD,
  m ((c.tc : Thread Cert.KernelIdeal.nD Cert.KernelIdeal.τ).loc Cert.KernelIdeal.main_arg0) = Layout.blockN ⟨2, ![1024, 1024]⟩ ⟨2, ![2048, 1024]⟩ (Layout.meshBlock [2, 2, 2] ![[2], []] c) (whole m' Cert.ReferenceIdeal.main_arg0)
  ∧ m ((c.tc : Thread Cert.KernelIdeal.nD Cert.KernelIdeal.τ).loc Cert.KernelIdeal.main_arg1) = Layout.blockN ⟨2, ![1024, 8]⟩ ⟨2, ![1024, 16]⟩ (Layout.meshBlock [2, 2, 2] ![[], [2]] c) (whole m' Cert.ReferenceIdeal.main_arg1)
  ∧ m ((c.tc : Thread Cert.KernelIdeal.nD Cert.KernelIdeal.τ).loc Cert.KernelIdeal.main_arg2) = Layout.blockN ⟨3, ![8, 1024, 4096]⟩ ⟨3, ![16, 1024, 4096]⟩ (Layout.meshBlock [2, 2, 2] ![[2], [], []] c) (whole m' Cert.ReferenceIdeal.main_arg2)
  ∧ m ((c.tc : Thread Cert.KernelIdeal.nD Cert.KernelIdeal.τ).loc Cert.KernelIdeal.main_arg3) = Layout.blockN ⟨3, ![8, 4096, 1024]⟩ ⟨3, ![16, 4096, 1024]⟩ (Layout.meshBlock [2, 2, 2] ![[2], [], []] c) (whole m' Cert.ReferenceIdeal.main_arg3)

/-- A device's place along the last mesh axis. -/
theorem place (c : Dev Cert.KernelIdeal.nD) : Layout.meshLin [2, 2, 2] c.val [2] = c.val % 2 := by revert c; decide

/-- The reference's arrays. -/
abbrev arrays (m' : RMem) := StableHlo.launchContents m' (0 : Dev Cert.ReferenceIdeal.nD)

variable {m : KMem} {m' : RMem} (h : Blocks m m')
include h

theorem tokens (c : Dev Cert.KernelIdeal.nD) (i : Fin 1024) (k : Fin 1024) :
    Cert.KernelIdeal.Moe.xin m c (ix2 i k) = Cert.ReferenceIdeal.Moe.xs (arrays m') (Cert.KernelIdeal.Moe.row c i) k := by
  rw [Cert.KernelIdeal.Moe.xin_eq, (h c).1]
  refine congrArg (whole m' Cert.ReferenceIdeal.main_arg0) (funext fun a => Fin.ext ?_)
  match a with
  | ⟨0, _⟩ => show Layout.meshLin [2, 2, 2] c.val [2] * 1024 + i.val = 1024 * (c.val % 2) + i.val; rw [place]; omega
  | ⟨1, _⟩ => show 0 * 1024 + k.val = k.val; omega

theorem router (c : Dev Cert.KernelIdeal.nD) (k : Fin 1024) (e : Fin 8) :
    Cert.KernelIdeal.Moe.rin m c (ix2 k e) = Cert.ReferenceIdeal.Moe.rs (arrays m') k (Cert.KernelIdeal.Moe.expertAt c e) := by
  rw [Cert.KernelIdeal.Moe.rin_eq, (h c).2.1]
  refine congrArg (whole m' Cert.ReferenceIdeal.main_arg1) (funext fun a => Fin.ext ?_)
  match a with
  | ⟨0, _⟩ => show 0 * 1024 + k.val = k.val; omega
  | ⟨1, _⟩ => show Layout.meshLin [2, 2, 2] c.val [2] * 8 + e.val = 8 * (c.val % 2) + e.val; rw [place]; omega

theorem weights1 (c : Dev Cert.KernelIdeal.nD) (e : Fin 8) (k : Fin 1024) (f : Fin 4096) :
    Cert.KernelIdeal.Moe.w1in m c (ix3 e k f) = Cert.ReferenceIdeal.Moe.w1s (arrays m') (Cert.KernelIdeal.Moe.expertAt c e) k f := by
  unfold Cert.KernelIdeal.Moe.w1in
  rw [(h c).2.2.1]
  refine congrArg (whole m' Cert.ReferenceIdeal.main_arg2) (funext fun a => Fin.ext ?_)
  match a with
  | ⟨0, _⟩ => show Layout.meshLin [2, 2, 2] c.val [2] * 8 + e.val = 8 * (c.val % 2) + e.val; rw [place]; omega
  | ⟨1, _⟩ => show 0 * 1024 + k.val = k.val; omega
  | ⟨2, _⟩ => show 0 * 4096 + f.val = f.val; omega

theorem weights2 (c : Dev Cert.KernelIdeal.nD) (e : Fin 8) (f : Fin 4096) (d : Fin 1024) :
    Cert.KernelIdeal.Moe.w2in m c (ix3 e f d) = Cert.ReferenceIdeal.Moe.w2s (arrays m') (Cert.KernelIdeal.Moe.expertAt c e) f d := by
  unfold Cert.KernelIdeal.Moe.w2in
  rw [(h c).2.2.2]
  refine congrArg (whole m' Cert.ReferenceIdeal.main_arg3) (funext fun a => Fin.ext ?_)
  match a with
  | ⟨0, _⟩ => show Layout.meshLin [2, 2, 2] c.val [2] * 8 + e.val = 8 * (c.val % 2) + e.val; rw [place]; omega
  | ⟨1, _⟩ => show 0 * 4096 + f.val = f.val; omega
  | ⟨2, _⟩ => show 0 * 1024 + d.val = d.val; omega

/-- Each device's result is its block of the reference's result. -/
theorem result (c : Dev Cert.KernelIdeal.nD) :
    Cert.KernelIdeal.Moe.OUT m c = Layout.blockN ⟨2, ![1024, 1024]⟩ ⟨2, ![2048, 1024]⟩ (Layout.meshBlock [2, 2, 2] ![[2], []] c) (Cert.ReferenceIdeal.Moe.out (arrays m')) := by
  funext x
  obtain ⟨i, d, rfl⟩ : ∃ i d : Fin 1024, x = ix2 i d := ⟨x 0, x 1, funext fun a => by
    match a with
    | ⟨0, _⟩ => rfl
    | ⟨1, _⟩ => rfl⟩
  refine (Cert.KernelIdeal.Moe.OUT_at (tokens h) (router h) (weights1 h) (weights2 h) c i d).trans ?_
  rw [← Cert.ReferenceIdeal.Moe.out_at]
  refine congrArg (Cert.ReferenceIdeal.Moe.out (arrays m')) (funext fun a => Fin.ext ?_)
  match a with
  | ⟨0, _⟩ => show 1024 * (c.val % 2) + i.val = Layout.meshLin [2, 2, 2] c.val [2] * 1024 + i.val; rw [place]; omega
  | ⟨1, _⟩ => show d.val = 0 * 1024 + d.val; omega

end Cert.Equal

end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Kernel.Launch
public import proofs.«01_k».proof.Proof.Value.Equal
public import Idealize.ShloMosaic.Adequacy
public import Idealize.ShloMosaic.Init

@[expose] public section

noncomputable section

namespace Cert.Proof

open Idealize.ShloMosaic Idealize.SL.Sem Cert.Kernel

/-- The kernel as printed runs to the end, leaves its arguments unchanged and every semaphore at zero. -/
theorem frame_k [Cert.Kernel.Facts] : Cert.quiescent_Kernel := fun m g _ =>
  (θ_run Cert.Kernel.defs _ _).mono (fun _ h => ⟨fun c => (h.1 c).2, h.2⟩) (Cert.Kernel.Moe.run_blocks m g)

/-- So does the kernel read at the exact values. -/
theorem frame_ki [Cert.KernelIdeal.Facts] : Cert.quiescent_KernelIdeal := fun m g _ =>
  (θ_run Cert.KernelIdeal.defs _ _).mono (fun _ h => ⟨fun c => (h.1 c).2, h.2⟩) (Cert.KernelIdeal.Moe.run_blocks m g)

/-- So does the reference, which has no semaphore. -/
theorem frame_ri [Cert.ReferenceIdeal.Facts] : Cert.quiescent_ReferenceIdeal := fun m g _ =>
  (θ_run Cert.ReferenceIdeal.defs _ _).mono (fun r h => ⟨fun c => (h c).2, sem_eq_zero_of_no_sems rfl r.2⟩)
    (Cert.ReferenceIdeal.Value.run m g)

/-- Each device's result is its block of the reference's result. -/
theorem same [Cert.KernelIdeal.Facts] [Cert.ReferenceIdeal.Facts] : Cert.algebraic_KernelIdeal_ReferenceIdeal := fun m g m' g' _ h =>
  ⟨Cert.ReferenceIdeal.Moe.out (Cert.Equal.arrays m'),
    (θ_run Cert.KernelIdeal.defs _ _).mono (fun _ r c => ⟨(r.1 c).1.trans (Cert.Equal.result h c), (r.1 c).2⟩) (Cert.KernelIdeal.Moe.run_blocks m g),
    (θ_run Cert.ReferenceIdeal.defs _ _).mono
      (fun _ r => ⟨(r 0).1.trans (Cert.ReferenceIdeal.Value.val5_main_v224 (Cert.Equal.arrays m')).symm, (r 0).2⟩) (Cert.ReferenceIdeal.Value.run m' g')⟩

theorem claim : Cert.Claim := ⟨Cert.Kernel.Gen.facts, Cert.KernelIdeal.Gen.facts, Cert.ReferenceIdeal.Gen.facts,
  frame_k, frame_ki, frame_ri, trivial, same⟩

end Cert.Proof

end
